-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_in_top_16 [hPre_no_tie_in_top_16 : Cert.Pre_no_tie_in_top_16.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_in_top_16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_in_top_16 [hPre_no_tie_in_top_16 : Cert.Pre_no_tie_in_top_16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_in_top_16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_tie_in_top_16 [hKernelIdeal : Cert.KernelIdeal.Facts] [hPre_no_tie_in_top_16 : Cert.Pre_no_tie_in_top_16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_in_top_16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_tie_in_top_16 [hReferenceIdeal : Cert.ReferenceIdeal.Facts] [hPre_no_tie_in_top_16 : Cert.Pre_no_tie_in_top_16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_in_top_16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "bias1" .f32 0xBF317218#32 ((-(Real.log 2) : ℝ) : EReal)
  ∧ IdealRules.named_const.Statement Cert.KernelIdeal.κ "bias2" .f32 0xBF8C9F54#32 ((-(Real.log 3) : ℝ) : EReal)
  ∧ IdealRules.named_const.Statement Cert.KernelIdeal.κ "bias3" .f32 0xBFB17218#32 ((-(Real.log 4) : ℝ) : EReal)
  ∧ IdealRules.named_const.Statement Cert.KernelIdeal.κ "bias4" .f32 0xBFCE0210#32 ((-(Real.log 5) : ℝ) : EReal)

def algebraic_KernelIdeal_ReferenceIdeal_pre_no_tie_in_top_16 [hKernelIdeal : Cert.KernelIdeal.Facts] [hReferenceIdeal : Cert.ReferenceIdeal.Facts] [hPre_no_tie_in_top_16 : Cert.Pre_no_tie_in_top_16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_in_top_16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_tie_in_top_16 : Cert.Pre_no_tie_in_top_16.Facts),
    quiescent_Kernel (hKernel := hKernel)
    ∧ quiescent_KernelIdeal (hKernelIdeal := hKernelIdeal)
    ∧ quiescent_KernelIdeal_pre_no_tie_in_top_16 (hKernelIdeal := hKernelIdeal) (hPre_no_tie_in_top_16 := hPre_no_tie_in_top_16)
    ∧ quiescent_ReferenceIdeal (hReferenceIdeal := hReferenceIdeal)
    ∧ quiescent_ReferenceIdeal_pre_no_tie_in_top_16 (hReferenceIdeal := hReferenceIdeal) (hPre_no_tie_in_top_16 := hPre_no_tie_in_top_16)
    ∧ preserves_Kernel_KernelIdeal
    ∧ algebraic_KernelIdeal_ReferenceIdeal_pre_no_tie_in_top_16 (hKernelIdeal := hKernelIdeal) (hReferenceIdeal := hReferenceIdeal) (hPre_no_tie_in_top_16 := hPre_no_tie_in_top_16)
-- ==== Pre_no_tie_in_top_16.lean ====
abbrev S8x512x256 : Shape := ⟨3, ![8, 512, 256]⟩
abbrev S8x512 : Shape := ⟨2, ![8, 512]⟩
abbrev S2x8192 : Shape := ⟨2, ![2, 8192]⟩
abbrev S8 : Shape := ⟨1, ![8]⟩
abbrev S256x256 : Shape := ⟨2, ![256, 256]⟩
abbrev S264x256 : Shape := ⟨2, ![264, 256]⟩
abbrev S5 : Shape := ⟨1, ![5]⟩
abbrev S_ : Shape := ⟨0, ![]⟩
abbrev S5x1 : Shape := ⟨2, ![5, 1]⟩
abbrev S5x2 : Shape := ⟨2, ![5, 2]⟩
abbrev S3 : Shape := ⟨1, ![3]⟩
abbrev S1x3 : Shape := ⟨2, ![1, 3]⟩
abbrev S5x3 : Shape := ⟨2, ![5, 3]⟩
abbrev S5x8 : Shape := ⟨2, ![5, 8]⟩
abbrev S8x1 : Shape := ⟨2, ![8, 1]⟩
abbrev S1x5 : Shape := ⟨2, ![1, 5]⟩
abbrev S8x5 : Shape := ⟨2, ![8, 5]⟩
abbrev S8x512x8x32 : Shape := ⟨4, ![8, 512, 8, 32]⟩
abbrev S8x5x1 : Shape := ⟨3, ![8, 5, 1]⟩
abbrev S8x5x512x256 : Shape := ⟨4, ![8, 5, 512, 256]⟩
abbrev S1x5x1x8 : Shape := ⟨4, ![1, 5, 1, 8]⟩
abbrev S8x5x512x8 : Shape := ⟨4, ![8, 5, 512, 8]⟩
abbrev S8x5x512x264 : Shape := ⟨4, ![8, 5, 512, 264]⟩
abbrev S8x5x512x8x32 : Shape := ⟨5, ![8, 5, 512, 8, 32]⟩
abbrev S8x8x512x5x512 : Shape := ⟨5, ![8, 8, 512, 5, 512]⟩
abbrev S1x1x1x5x1 : Shape := ⟨5, ![1, 1, 1, 5, 1]⟩
abbrev S8x5x512 : Shape := ⟨3, ![8, 5, 512]⟩
abbrev S8x1x1x5x512 : Shape := ⟨5, ![8, 1, 1, 5, 512]⟩
abbrev S8x8x512x2560 : Shape := ⟨4, ![8, 8, 512, 2560]⟩
abbrev S512x512 : Shape := ⟨2, ![512, 512]⟩
abbrev S1x8192 : Shape := ⟨2, ![1, 8192]⟩
abbrev S8192 : Shape := ⟨1, ![8192]⟩
abbrev S8192x1 : Shape := ⟨2, ![8192, 1]⟩
abbrev S8192x2 : Shape := ⟨2, ![8192, 2]⟩
abbrev S1x512x1x512 : Shape := ⟨4, ![1, 512, 1, 512]⟩
abbrev S8x1x5x1 : Shape := ⟨4, ![8, 1, 5, 1]⟩
abbrev S8x512x5x512 : Shape := ⟨4, ![8, 512, 5, 512]⟩
abbrev S8x1x512x2560 : Shape := ⟨4, ![8, 1, 512, 2560]⟩
abbrev S8x8x512x16 : Shape := ⟨4, ![8, 8, 512, 16]⟩
abbrev S8x8x512x15 : Shape := ⟨4, ![8, 8, 512, 15]⟩

class Facts : Prop where
  bcast_S_S5 : S_.BroadcastsInDim S5 (![] : Fin 0 → Fin S5.rank)
  bcast_S5_S5x1_0 : S5.BroadcastsInDim S5x1 (![0] : Fin 1 → Fin S5x1.rank)
  concatenates_S5x1_S5x1_S5x2_d1 : Shape.Concatenates [S5x1, S5x1] S5x2 1
  bcast_S_S3 : S_.BroadcastsInDim S3 (![] : Fin 0 → Fin S3.rank)
  bcast_S3_S1x3_1 : S3.BroadcastsInDim S1x3 (![1] : Fin 1 → Fin S1x3.rank)
  bcast_S5x1_S5x3_0_1 : S5x1.BroadcastsInDim S5x3 (![0, 1] : Fin 2 → Fin S5x3.rank)
  bcast_S1x3_S5x3_0_1 : S1x3.BroadcastsInDim S5x3 (![0, 1] : Fin 2 → Fin S5x3.rank)
  concatenates_S5x2_S5x3_S5x3_S5x8_d1 : Shape.Concatenates [S5x2, S5x3, S5x3] S5x8 1
  bcast_S8_S8x1_0 : S8.BroadcastsInDim S8x1 (![0] : Fin 1 → Fin S8x1.rank)
  bcast_S5_S1x5_1 : S5.BroadcastsInDim S1x5 (![1] : Fin 1 → Fin S1x5.rank)
  bcast_S8x1_S8x5_0_1 : S8x1.BroadcastsInDim S8x5 (![0, 1] : Fin 2 → Fin S8x5.rank)
  bcast_S1x5_S8x5_0_1 : S1x5.BroadcastsInDim S8x5 (![0, 1] : Fin 2 → Fin S8x5.rank)
  bcast_S_S8x5 : S_.BroadcastsInDim S8x5 (![] : Fin 0 → Fin S8x5.rank)
  shapeCasts_S8x512x256_S8x512x8x32 : S8x512x256.ShapeCasts S8x512x8x32
  bcast_S8x5_S8x5x1_0_1 : S8x5.BroadcastsInDim S8x5x1 (![0, 1] : Fin 2 → Fin S8x5x1.rank)
  bcast_S5x8_S1x5x1x8_1_3 : S5x8.BroadcastsInDim S1x5x1x8 (![1, 3] : Fin 2 → Fin S1x5x1x8.rank)
  bcast_S1x5x1x8_S8x5x512x8_0_1_2_3 : S1x5x1x8.BroadcastsInDim S8x5x512x8 (![0, 1, 2, 3] : Fin 4 → Fin S8x5x512x8.rank)
  concatenates_S8x5x512x256_S8x5x512x8_S8x5x512x264_d3 : Shape.Concatenates [S8x5x512x256, S8x5x512x8] S8x5x512x264 3
  shapeCasts_S8x5x512x256_S8x5x512x8x32 : S8x5x512x256.ShapeCasts S8x5x512x8x32
  bcast_S_S8x8x512x5x512 : S_.BroadcastsInDim S8x8x512x5x512 (![] : Fin 0 → Fin S8x8x512x5x512.rank)
  bcast_S5x1_S1x1x1x5x1_3_4 : S5x1.BroadcastsInDim S1x1x1x5x1 (![3, 4] : Fin 2 → Fin S1x1x1x5x1.rank)
  bcast_S1x1x1x5x1_S8x8x512x5x512_0_1_2_3_4 : S1x1x1x5x1.BroadcastsInDim S8x8x512x5x512 (![0, 1, 2, 3, 4] : Fin 5 → Fin S8x8x512x5x512.rank)
  bcast_S_S8x5x512 : S_.BroadcastsInDim S8x5x512 (![] : Fin 0 → Fin S8x5x512.rank)
  bcast_S8x5x512_S8x1x1x5x512_0_3_4 : S8x5x512.BroadcastsInDim S8x1x1x5x512 (![0, 3, 4] : Fin 3 → Fin S8x1x1x5x512.rank)
  bcast_S8x1x1x5x512_S8x8x512x5x512_0_1_2_3_4 : S8x1x1x5x512.BroadcastsInDim S8x8x512x5x512 (![0, 1, 2, 3, 4] : Fin 5 → Fin S8x8x512x5x512.rank)
  shapeCasts_S8x8x512x5x512_S8x8x512x2560 : S8x8x512x5x512.ShapeCasts S8x8x512x2560
  bcast_S_S8x8x512x2560 : S_.BroadcastsInDim S8x8x512x2560 (![] : Fin 0 → Fin S8x8x512x2560.rank)
  bcast_S_S512x512 : S_.BroadcastsInDim S512x512 (![] : Fin 0 → Fin S512x512.rank)
  slices_S2x8192_S1x8192_1_0 : S2x8192.Slices ![1, 0] S1x8192
  shapeCasts_S1x8192_S8192 : S1x8192.ShapeCasts S8192
  slices_S2x8192_S1x8192_0_0 : S2x8192.Slices ![0, 0] S1x8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S512x512_S1x512x1x512_1_3 : S512x512.BroadcastsInDim S1x512x1x512 (![1, 3] : Fin 2 → Fin S1x512x1x512.rank)
  bcast_S8x5_S8x1x5x1_0_2 : S8x5.BroadcastsInDim S8x1x5x1 (![0, 2] : Fin 2 → Fin S8x1x5x1.rank)
  bcast_S1x512x1x512_S8x512x5x512_0_1_2_3 : S1x512x1x512.BroadcastsInDim S8x512x5x512 (![0, 1, 2, 3] : Fin 4 → Fin S8x512x5x512.rank)
  bcast_S8x1x5x1_S8x512x5x512_0_1_2_3 : S8x1x5x1.BroadcastsInDim S8x512x5x512 (![0, 1, 2, 3] : Fin 4 → Fin S8x512x5x512.rank)
  shapeCasts_S8x512x5x512_S8x1x512x2560 : S8x512x5x512.ShapeCasts S8x1x512x2560
  bcast_S8x1x512x2560_S8x8x512x2560_0_1_2_3 : S8x1x512x2560.BroadcastsInDim S8x8x512x2560 (![0, 1, 2, 3] : Fin 4 → Fin S8x8x512x2560.rank)
  sliceFits_S8x8x512x2560_S8x8x512x16 : S8x8x512x2560.Slices (fun _ => 0) S8x8x512x16
  slices_S8x8x512x16_S8x8x512x15_0_0_0_0 : S8x8x512x16.Slices ![0, 0, 0, 0] S8x8x512x15
  slices_S8x8x512x16_S8x8x512x15_0_0_0_1 : S8x8x512x16.Slices ![0, 0, 0, 1] S8x8x512x15
  bcast_S_S8x8x512x15 : S_.BroadcastsInDim S8x8x512x15 (![] : Fin 0 → Fin S8x8x512x15.rank)
  dot_S8x512x256_S256x256_S8x512x256_2_0_01_1_n_n_wf : DotDims.WF S8x512x256 S256x256 S8x512x256 [2] [0] [0, 1] [1] [] []
  gather_S8x512x256_S8x5x1_S8x5x512x256_23_0_n_n_0_2_1512256_wf : GatherDims.WF S8x512x256 S8x5x1 S8x5x512x256 [2, 3] [0] [] [0] [] 2 ![1, 512, 256]
  dot_S8x5x512x264_S264x256_S8x5x512x256_3_0_012_1_n_n_wf : DotDims.WF S8x5x512x264 S264x256 S8x5x512x256 [3] [0] [0, 1, 2] [1] [] []
  dot_S8x512x8x32_S8x5x512x8x32_S8x8x512x5x512_3_4_1_12_02_03_wf : DotDims.WF S8x512x8x32 S8x5x512x8x32 S8x8x512x5x512 [3] [4] [1] [1, 2] [0, 2] [0, 3]
  gather_S8x512_S8x5x1_S8x5x512_2_0_n_n_0_2_1512_wf : GatherDims.WF S8x512 S8x5x1 S8x5x512 [2] [0] [] [0] [] 2 ![1, 512]
  scatter_S512x512_S8192x2_S8192_n_01_01_1_wf : ScatterDims.WF S512x512 S8192x2 S8192 [] [0, 1] [0, 1] 1

variable [Facts]

def dot_S8x512x256_S256x256_S8x512x256_2_0_01_1_n_n : DotDims S8x512x256 S256x256 S8x512x256 where
  lhsContracting := [2]
  rhsContracting := [0]
  lhsNonContracting := [0, 1]
  rhsNonContracting := [1]
  lhsBatch := []
  rhsBatch := []
  wf := dot_S8x512x256_S256x256_S8x512x256_2_0_01_1_n_n_wf
def gather_S8x512x256_S8x5x1_S8x5x512x256_23_0_n_n_0_2_1512256 : GatherDims S8x512x256 S8x5x1 S8x5x512x256 where
  offsetDims := [2, 3]
  collapsedSliceDims := [0]
  operandBatchingDims := []
  startIndicesBatchingDims := []
  startIndexMap := [0]
  indexVectorDim := 2
  sliceSizes := ![1, 512, 256]
  wf := gather_S8x512x256_S8x5x1_S8x5x512x256_23_0_n_n_0_2_1512256_wf
def dot_S8x5x512x264_S264x256_S8x5x512x256_3_0_012_1_n_n : DotDims S8x5x512x264 S264x256 S8x5x512x256 where
  lhsContracting := [3]
  rhsContracting := [0]
  lhsNonContracting := [0, 1, 2]
  rhsNonContracting := [1]
  lhsBatch := []
  rhsBatch := []
  wf := dot_S8x5x512x264_S264x256_S8x5x512x256_3_0_012_1_n_n_wf
def dot_S8x512x8x32_S8x5x512x8x32_S8x8x512x5x512_3_4_1_12_02_03 : DotDims S8x512x8x32 S8x5x512x8x32 S8x8x512x5x512 where
  lhsContracting := [3]
  rhsContracting := [4]
  lhsNonContracting := [1]
  rhsNonContracting := [1, 2]
  lhsBatch := [0, 2]
  rhsBatch := [0, 3]
  wf := dot_S8x512x8x32_S8x5x512x8x32_S8x8x512x5x512_3_4_1_12_02_03_wf
def gather_S8x512_S8x5x1_S8x5x512_2_0_n_n_0_2_1512 : GatherDims S8x512 S8x5x1 S8x5x512 where
  offsetDims := [2]
  collapsedSliceDims := [0]
  operandBatchingDims := []
  startIndicesBatchingDims := []
  startIndexMap := [0]
  indexVectorDim := 2
  sliceSizes := ![1, 512]
  wf := gather_S8x512_S8x5x1_S8x5x512_2_0_n_n_0_2_1512_wf
def scatter_S512x512_S8192x2_S8192_n_01_01_1 : ScatterDims S512x512 S8192x2 S8192 where
  updateWindowDims := []
  insertedWindowDims := [0, 1]
  scatterDimsToOperandDims := [0, 1]
  indexVectorDim := 1
  wf := scatter_S512x512_S8192x2_S8192_n_01_01_1_wf
def fn_part5 {F : FTy → Type} [FloatOps F] (main_v35 : IVec S8x5 32) (main_v78 : FVec F S8x8x512x2560 .f32) (main_v98 : IVec S512x512 1) : IVec S8x8x512x15 1 :=
  let main_v99 : IVec S1x512x1x512 1 := broadcastInDim S1x512x1x512 ![1, 3] bcast_S512x512_S1x512x1x512_1_3 main_v98
  let main_c_19 : IVec S_ 32 := constantI S_ 32 0#32
  let main_v100 : IVec S8x5 32 := broadcastInDim S8x5 ![] bcast_S_S8x5 main_c_19
  let main_v101 : IVec S8x5 1 := cmpi .sge main_v35 main_v100
  let main_v102 : IVec S8x1x5x1 1 := broadcastInDim S8x1x5x1 ![0, 2] bcast_S8x5_S8x1x5x1_0_2 main_v101
  let main_v103 : IVec S8x512x5x512 1 := broadcastInDim S8x512x5x512 ![0, 1, 2, 3] bcast_S1x512x1x512_S8x512x5x512_0_1_2_3 main_v99
  let main_v104 : IVec S8x512x5x512 1 := broadcastInDim S8x512x5x512 ![0, 1, 2, 3] bcast_S8x1x5x1_S8x512x5x512_0_1_2_3 main_v102
  let main_v105 : IVec S8x512x5x512 1 := andi main_v103 main_v104
  let main_v106 : IVec S8x1x512x2560 1 := shapeCast S8x1x512x2560 main_v105 shapeCasts_S8x512x5x512_S8x1x512x2560
  let main_v107 : IVec S8x8x512x2560 1 := broadcastInDim S8x8x512x2560 ![0, 1, 2, 3] bcast_S8x1x512x2560_S8x8x512x2560_0_1_2_3 main_v106
  let main_cst_20 : FVec F S_ .f32 := constant S_ .f32 0xFF800000#32
  let main_v108 : FVec F S8x8x512x2560 .f32 := broadcastInDim S8x8x512x2560 ![] bcast_S_S8x8x512x2560 main_cst_20
  let main_v109 : FVec F S8x8x512x2560 .f32 := select main_v107 main_v78 main_v108
  let main_values : FVec F S8x8x512x16 .f32 := (fun x => (Host.topK S8x8x512x16 3 (FloatOps.cmpfTotal .gt) x sliceFits_S8x8x512x2560_S8x8x512x16).1) main_v109
  let main_indices : IVec S8x8x512x16 32 := (fun x => (Host.topK S8x8x512x16 3 (FloatOps.cmpfTotal .gt) x sliceFits_S8x8x512x2560_S8x8x512x16).2) main_v109
  let main_v110 : FVec F S8x8x512x15 .f32 := (extractStridedSlice S8x8x512x15 ![0, 0, 0, 0] · slices_S8x8x512x16_S8x8x512x15_0_0_0_0) main_values
  let main_v111 : FVec F S8x8x512x15 .f32 := (extractStridedSlice S8x8x512x15 ![0, 0, 0, 1] · slices_S8x8x512x16_S8x8x512x15_0_0_0_1) main_values
  let main_v112 : IVec S8x8x512x15 1 := cmpf .ogt main_v110 main_v111
  let main_v113 : FVec F S8x8x512x15 .f32 := (extractStridedSlice S8x8x512x15 ![0, 0, 0, 1] · slices_S8x8x512x16_S8x8x512x15_0_0_0_1) main_values
  let main_cst_21 : FVec F S_ .f32 := constant S_ .f32 0xFF800000#32
  let main_v114 : FVec F S8x8x512x15 .f32 := broadcastInDim S8x8x512x15 ![] bcast_S_S8x8x512x15 main_cst_21
  let main_v115 : IVec S8x8x512x15 1 := cmpf .oeq main_v113 main_v114
  let main_v116 : IVec S8x8x512x15 1 := ori main_v112 main_v115
  main_v116

def fn_part4 {F : FTy → Type} [FloatOps F] (main_arg2 : IVec S2x8192 32) (main_v35 : IVec S8x5 32) (main_v78 : FVec F S8x8x512x2560 .f32) (main_v79 : IVec S512x512 1) : IVec S8x8x512x15 1 :=
  let main_v80 : IVec S1x8192 32 := (extractStridedSlice S1x8192 ![1, 0] · slices_S2x8192_S1x8192_1_0) main_arg2
  let main_v81 : IVec S8192 32 := shapeCast S8192 main_v80 shapeCasts_S1x8192_S8192
  let main_v82 : IVec S1x8192 32 := (extractStridedSlice S1x8192 ![0, 0] · slices_S2x8192_S1x8192_0_0) main_arg2
  let main_v83 : IVec S8192 32 := shapeCast S8192 main_v82 shapeCasts_S1x8192_S8192
  let main_c_14 : IVec S_ 32 := constantI S_ 32 0#32
  let main_v84 : IVec S8192 32 := broadcastInDim S8192 ![] bcast_S_S8192 main_c_14
  let main_v85 : IVec S8192 1 := cmpi .slt main_v81 main_v84
  let main_c_15 : IVec S_ 32 := constantI S_ 32 512#32
  let main_v86 : IVec S8192 32 := broadcastInDim S8192 ![] bcast_S_S8192 main_c_15
  let main_v87 : IVec S8192 32 := addi main_v81 main_v86
  let main_v88 : IVec S8192 32 := select main_v85 main_v87 main_v81
  let main_c_16 : IVec S_ 32 := constantI S_ 32 0#32
  let main_v89 : IVec S8192 32 := broadcastInDim S8192 ![] bcast_S_S8192 main_c_16
  let main_v90 : IVec S8192 1 := cmpi .slt main_v83 main_v89
  let main_c_17 : IVec S_ 32 := constantI S_ 32 512#32
  let main_v91 : IVec S8192 32 := broadcastInDim S8192 ![] bcast_S_S8192 main_c_17
  let main_v92 : IVec S8192 32 := addi main_v83 main_v91
  let main_v93 : IVec S8192 32 := select main_v90 main_v92 main_v83
  let main_v94 : IVec S8192x1 32 := broadcastInDim S8192x1 ![0] bcast_S8192_S8192x1_0 main_v88
  let main_v95 : IVec S8192x1 32 := broadcastInDim S8192x1 ![0] bcast_S8192_S8192x1_0 main_v93
  let main_v96 : IVec S8192x2 32 := (fun a b => concatenate S8192x2 1 [⟨S8192x1, a⟩, ⟨S8192x1, b⟩] concatenates_S8192x1_S8192x1_S8192x2_d1) main_v94 main_v95
  let main_c_18 : IVec S_ 1 := constantI S_ 1 1#1
  let main_v97 : IVec S8192 1 := broadcastInDim S8192 ![] bcast_S_S8192 main_c_18
  let main_v98 : IVec S512x512 1 := (fun x i u => Host.scatter scatter_S512x512_S8192x2_S8192_n_01_01_1 (fun _ b => b) x i u) main_v79 main_v96 main_v97
  fn_part5 (F := F) main_v35 main_v78 main_v98

def fn_part3 {F : FTy → Type} [FloatOps F] (main_arg1 : FVec F S8x512 .f32) (main_arg2 : IVec S2x8192 32) (main_v35 : IVec S8x5 32) (main_v37 : IVec S8x5 32) (main_v58 : FVec F S8x8x512x5x512 .f32) (main_v60 : IVec S8x5 1) (main_c_8 : IVec S_ 32) : IVec S8x8x512x15 1 :=
  let main_v61 : IVec S8x5 32 := broadcastInDim S8x5 ![] bcast_S_S8x5 main_c_8
  let main_v62 : IVec S8x5 32 := addi main_v37 main_v61
  let main_v63 : IVec S8x5 32 := select main_v60 main_v62 main_v37
  let main_v64 : IVec S8x5x1 32 := broadcastInDim S8x5x1 ![0, 1] bcast_S8x5_S8x5x1_0_1 main_v63
  let main_v65 : FVec F S8x5x512 .f32 := (fun x i => Host.gather gather_S8x512_S8x5x1_S8x5x512_2_0_n_n_0_2_1512 x i) main_arg1 main_v64
  let main_cst_9 : FVec F S_ .f32 := constant S_ .f32 0x00000000#32
  let main_v66 : FVec F S8x5x512 .f32 := broadcastInDim S8x5x512 ![] bcast_S_S8x5x512 main_cst_9
  let main_v67 : FVec F S8x5x512 .f32 := maximumf main_v65 main_v66
  let main_cst_10 : FVec F S_ .f32 := constant S_ .f32 0x3F800000#32
  let main_v68 : FVec F S8x5x512 .f32 := broadcastInDim S8x5x512 ![] bcast_S_S8x5x512 main_cst_10
  let main_v69 : FVec F S8x5x512 .f32 := minimumf main_v67 main_v68
  let main_cst_11 : FVec F S_ .f32 := constant S_ .f32 0x358637BD#32
  let main_v70 : FVec F S8x5x512 .f32 := broadcastInDim S8x5x512 ![] bcast_S_S8x5x512 main_cst_11
  let main_v71 : FVec F S8x5x512 .f32 := addf main_v69 main_v70
  let main_v72 : FVec F S8x5x512 .f32 := Host.log main_v71
  let main_v73 : FVec F S8x1x1x5x512 .f32 := broadcastInDim S8x1x1x5x512 ![0, 3, 4] bcast_S8x5x512_S8x1x1x5x512_0_3_4 main_v72
  let main_v74 : FVec F S8x8x512x5x512 .f32 := broadcastInDim S8x8x512x5x512 ![0, 1, 2, 3, 4] bcast_S8x1x1x5x512_S8x8x512x5x512_0_1_2_3_4 main_v73
  let main_v75 : FVec F S8x8x512x5x512 .f32 := addf main_v58 main_v74
  let main_v76 : FVec F S8x8x512x2560 .f32 := shapeCast S8x8x512x2560 main_v75 shapeCasts_S8x8x512x5x512_S8x8x512x2560
  let main_cst_12 : FVec F S_ .f32 := constant S_ .f32 0x3F800000#32
  let main_v77 : FVec F S8x8x512x2560 .f32 := broadcastInDim S8x8x512x2560 ![] bcast_S_S8x8x512x2560 main_cst_12
  let main_v78 : FVec F S8x8x512x2560 .f32 := Host.divf main_v76 main_v77
  let main_c_13 : IVec S_ 1 := constantI S_ 1 0#1
  let main_v79 : IVec S512x512 1 := broadcastInDim S512x512 ![] bcast_S_S512x512 main_c_13
  fn_part4 (F := F) main_arg2 main_v35 main_v78 main_v79

def fn_part2 {F : FTy → Type} [FloatOps F] (main_arg0 : FVec F S8x512x256 .f32) (main_arg1 : FVec F S8x512 .f32) (main_arg2 : IVec S2x8192 32) (main_arg5 : FVec F S264x256 .f32) (main_v26 : FVec F S5x8 .f32) (main_v28 : FVec F S5 .f32) (main_v35 : IVec S8x5 32) (main_v37 : IVec S8x5 32) (main_v39 : FVec F S8x512x8x32 .f32) (main_v40 : IVec S8x5 32) : IVec S8x8x512x15 1 :=
  let main_v41 : IVec S8x5 1 := cmpi .slt main_v37 main_v40
  let main_c_5 : IVec S_ 32 := constantI S_ 32 8#32
  let main_v42 : IVec S8x5 32 := broadcastInDim S8x5 ![] bcast_S_S8x5 main_c_5
  let main_v43 : IVec S8x5 32 := addi main_v37 main_v42
  let main_v44 : IVec S8x5 32 := select main_v41 main_v43 main_v37
  let main_v45 : IVec S8x5x1 32 := broadcastInDim S8x5x1 ![0, 1] bcast_S8x5_S8x5x1_0_1 main_v44
  let main_v46 : FVec F S8x5x512x256 .f32 := (fun x i => Host.gather gather_S8x512x256_S8x5x1_S8x5x512x256_23_0_n_n_0_2_1512256 x i) main_arg0 main_v45
  let main_v47 : FVec F S1x5x1x8 .f32 := broadcastInDim S1x5x1x8 ![1, 3] bcast_S5x8_S1x5x1x8_1_3 main_v26
  let main_v48 : FVec F S8x5x512x8 .f32 := broadcastInDim S8x5x512x8 ![0, 1, 2, 3] bcast_S1x5x1x8_S8x5x512x8_0_1_2_3 main_v47
  let main_v49 : FVec F S8x5x512x264 .f32 := (fun a b => concatenate S8x5x512x264 3 [⟨S8x5x512x256, a⟩, ⟨S8x5x512x8, b⟩] concatenates_S8x5x512x256_S8x5x512x8_S8x5x512x264_d3) main_v46 main_v48
  let main_v50 : FVec F S8x5x512x256 .f32 := (fun l r => Host.dotGeneral dot_S8x5x512x264_S264x256_S8x5x512x256_3_0_012_1_n_n none l r) main_v49 main_arg5
  let main_v51 : FVec F S8x5x512x8x32 .f32 := shapeCast S8x5x512x8x32 main_v50 shapeCasts_S8x5x512x256_S8x5x512x8x32
  let main_v52 : FVec F S8x8x512x5x512 .f32 := (fun l r => Host.dotGeneral dot_S8x512x8x32_S8x5x512x8x32_S8x8x512x5x512_3_4_1_12_02_03 none l r) main_v39 main_v51
  let main_cst_6 : FVec F S_ .f32 := constant S_ .f32 0x3E3504F3#32
  let main_v53 : FVec F S8x8x512x5x512 .f32 := broadcastInDim S8x8x512x5x512 ![] bcast_S_S8x8x512x5x512 main_cst_6
  let main_v54 : FVec F S8x8x512x5x512 .f32 := mulf main_v52 main_v53
  let main_v55 : FVec F S5x1 .f32 := broadcastInDim S5x1 ![0] bcast_S5_S5x1_0 main_v28
  let main_v56 : FVec F S1x1x1x5x1 .f32 := broadcastInDim S1x1x1x5x1 ![3, 4] bcast_S5x1_S1x1x1x5x1_3_4 main_v55
  let main_v57 : FVec F S8x8x512x5x512 .f32 := broadcastInDim S8x8x512x5x512 ![0, 1, 2, 3, 4] bcast_S1x1x1x5x1_S8x8x512x5x512_0_1_2_3_4 main_v56
  let main_v58 : FVec F S8x8x512x5x512 .f32 := addf main_v54 main_v57
  let main_c_7 : IVec S_ 32 := constantI S_ 32 0#32
  let main_v59 : IVec S8x5 32 := broadcastInDim S8x5 ![] bcast_S_S8x5 main_c_7
  let main_v60 : IVec S8x5 1 := cmpi .slt main_v37 main_v59
  let main_c_8 : IVec S_ 32 := constantI S_ 32 8#32
  fn_part3 (F := F) main_arg1 main_arg2 main_v35 main_v37 main_v58 main_v60 main_c_8

def fn_part1 {F : FTy → Type} [FloatOps F] (main_arg0 : FVec F S8x512x256 .f32) (main_arg1 : FVec F S8x512 .f32) (main_arg2 : IVec S2x8192 32) (main_arg4 : FVec F S256x256 .f32) (main_arg5 : FVec F S264x256 .f32) (main_v0 : FVec F S5 .f32) (main_v11 : FVec F S5x2 .f32) (main_v18 : FVec F S3 .f32) : IVec S8x8x512x15 1 :=
  let main_v19 : FVec F S5x1 .f32 := broadcastInDim S5x1 ![0] bcast_S5_S5x1_0 main_v0
  let main_v20 : FVec F S1x3 .f32 := broadcastInDim S1x3 ![1] bcast_S3_S1x3_1 main_v18
  let main_v21 : FVec F S5x3 .f32 := broadcastInDim S5x3 ![0, 1] bcast_S5x1_S5x3_0_1 main_v19
  let main_v22 : FVec F S5x3 .f32 := broadcastInDim S5x3 ![0, 1] bcast_S1x3_S5x3_0_1 main_v20
  let main_v23 : FVec F S5x3 .f32 := mulf main_v21 main_v22
  let main_v24 : FVec F S5x3 .f32 := Host.sin main_v23
  let main_v25 : FVec F S5x3 .f32 := Host.cos main_v23
  let main_v26 : FVec F S5x8 .f32 := concatenate S5x8 1 [⟨S5x2, main_v11⟩, ⟨S5x3, main_v24⟩, ⟨S5x3, main_v25⟩] concatenates_S5x2_S5x3_S5x3_S5x8_d1
  let main_v27 : FVec F S5 .f32 := Host.log1p main_v0
  let main_v28 : FVec F S5 .f32 := Host.negf main_v27
  let main_v29 : IVec S8 32 := iotaInDim S8 32 0
  let main_v30 : IVec S8x1 32 := broadcastInDim S8x1 ![0] bcast_S8_S8x1_0 main_v29
  let main_v31 : IVec S5 32 := iotaInDim S5 32 0
  let main_v32 : IVec S1x5 32 := broadcastInDim S1x5 ![1] bcast_S5_S1x5_1 main_v31
  let main_v33 : IVec S8x5 32 := broadcastInDim S8x5 ![0, 1] bcast_S8x1_S8x5_0_1 main_v30
  let main_v34 : IVec S8x5 32 := broadcastInDim S8x5 ![0, 1] bcast_S1x5_S8x5_0_1 main_v32
  let main_v35 : IVec S8x5 32 := subi main_v33 main_v34
  let main_c : IVec S_ 32 := constantI S_ 32 0#32
  let main_v36 : IVec S8x5 32 := broadcastInDim S8x5 ![] bcast_S_S8x5 main_c
  let main_v37 : IVec S8x5 32 := maxsi main_v35 main_v36
  let main_v38 : FVec F S8x512x256 .f32 := (fun l r => Host.dotGeneral dot_S8x512x256_S256x256_S8x512x256_2_0_01_1_n_n none l r) main_arg0 main_arg4
  let main_v39 : FVec F S8x512x8x32 .f32 := shapeCast S8x512x8x32 main_v38 shapeCasts_S8x512x256_S8x512x8x32
  let main_c_4 : IVec S_ 32 := constantI S_ 32 0#32
  let main_v40 : IVec S8x5 32 := broadcastInDim S8x5 ![] bcast_S_S8x5 main_c_4
  fn_part2 (F := F) main_arg0 main_arg1 main_arg2 main_arg5 main_v26 main_v28 main_v35 main_v37 main_v39 main_v40

def fn {F : FTy → Type} [FloatOps F] (main_arg0 : FVec F S8x512x256 .f32) (main_arg1 : FVec F S8x512 .f32) (main_arg2 : IVec S2x8192 32) (main_arg3 : IVec S8 32) (main_arg4 : FVec F S256x256 .f32) (main_arg5 : FVec F S264x256 .f32) (main_arg6 : FVec F S256x256 .f32) : IVec S8x8x512x15 1 :=
  let main_v0 : FVec F S5 .f32 := sitofp .f32 (iotaInDim S5 32 0)
  let main_v1 : FVec F S5 .f32 := Host.negf main_v0
  let main_cst : FVec F S_ .f32 := constant S_ .f32 0x40800000#32
  let main_v2 : FVec F S5 .f32 := broadcastInDim S5 ![] bcast_S_S5 main_cst
  let main_v3 : FVec F S5 .f32 := Host.divf main_v1 main_v2
  let main_v4 : FVec F S5 .f32 := Host.exp main_v3
  let main_v5 : FVec F S5 .f32 := Host.negf main_v0
  let main_cst_0 : FVec F S_ .f32 := constant S_ .f32 0x41800000#32
  let main_v6 : FVec F S5 .f32 := broadcastInDim S5 ![] bcast_S_S5 main_cst_0
  let main_v7 : FVec F S5 .f32 := Host.divf main_v5 main_v6
  let main_v8 : FVec F S5 .f32 := Host.exp main_v7
  let main_v9 : FVec F S5x1 .f32 := broadcastInDim S5x1 ![0] bcast_S5_S5x1_0 main_v4
  let main_v10 : FVec F S5x1 .f32 := broadcastInDim S5x1 ![0] bcast_S5_S5x1_0 main_v8
  let main_v11 : FVec F S5x2 .f32 := (fun a b => concatenate S5x2 1 [⟨S5x1, a⟩, ⟨S5x1, b⟩] concatenates_S5x1_S5x1_S5x2_d1) main_v9 main_v10
  let main_v12 : FVec F S3 .f32 := sitofp .f32 (iotaInDim S3 32 0)
  let main_cst_1 : FVec F S_ .f32 := constant S_ .f32 0x40400000#32
  let main_v13 : FVec F S3 .f32 := broadcastInDim S3 ![] bcast_S_S3 main_cst_1
  let main_v14 : FVec F S3 .f32 := Host.divf main_v12 main_v13
  let main_cst_2 : FVec F S_ .f32 := constant S_ .f32 0x461C4000#32
  let main_v15 : FVec F S3 .f32 := broadcastInDim S3 ![] bcast_S_S3 main_cst_2
  let main_v16 : FVec F S3 .f32 := Host.powf main_v15 main_v14
  let main_cst_3 : FVec F S_ .f32 := constant S_ .f32 0x3F800000#32
  let main_v17 : FVec F S3 .f32 := broadcastInDim S3 ![] bcast_S_S3 main_cst_3
  let main_v18 : FVec F S3 .f32 := Host.divf main_v17 main_v16
  fn_part1 (F := F) main_arg0 main_arg1 main_arg2 main_arg4 main_arg5 main_v0 main_v11 main_v18
-- ==== Kernel.lean ====
abbrev S8x512x256 : Shape := ⟨3, ![8, 512, 256]⟩
abbrev S8x512 : Shape := ⟨2, ![8, 512]⟩
abbrev S2x8192 : Shape := ⟨2, ![2, 8192]⟩
abbrev S8 : Shape := ⟨1, ![8]⟩
abbrev S256x256 : Shape := ⟨2, ![256, 256]⟩
abbrev S264x256 : Shape := ⟨2, ![264, 256]⟩
abbrev S_ : Shape := ⟨0, ![]⟩
abbrev S512x512 : Shape := ⟨2, ![512, 512]⟩
abbrev S1x8192 : Shape := ⟨2, ![1, 8192]⟩
abbrev S8192 : Shape := ⟨1, ![8192]⟩
abbrev S8192x1 : Shape := ⟨2, ![8192, 1]⟩
abbrev S8192x2 : Shape := ⟨2, ![8192, 2]⟩
abbrev S5 : Shape := ⟨1, ![5]⟩
abbrev S5x1 : Shape := ⟨2, ![5, 1]⟩
abbrev S5x2 : Shape := ⟨2, ![5, 2]⟩
abbrev S3 : Shape := ⟨1, ![3]⟩
abbrev S1x3 : Shape := ⟨2, ![1, 3]⟩
abbrev S5x3 : Shape := ⟨2, ![5, 3]⟩
abbrev S5x8 : Shape := ⟨2, ![5, 8]⟩
abbrev S5x8x1 : Shape := ⟨3, ![5, 8, 1]⟩
abbrev S8x256 : Shape := ⟨2, ![8, 256]⟩
abbrev S1x8x256 : Shape := ⟨3, ![1, 8, 256]⟩
abbrev S5x8x256 : Shape := ⟨3, ![5, 8, 256]⟩
abbrev S5x256 : Shape := ⟨2, ![5, 256]⟩
abbrev S8x8x32 : Shape := ⟨3, ![8, 8, 32]⟩
abbrev S8x256x512 : Shape := ⟨3, ![8, 256, 512]⟩
abbrev S8x8x32x512 : Shape := ⟨4, ![8, 8, 32, 512]⟩
abbrev S1x256x512 : Shape := ⟨3, ![1, 256, 512]⟩
abbrev S8x1x32x512 : Shape := ⟨4, ![8, 1, 32, 512]⟩
abbrev S256x512 : Shape := ⟨2, ![256, 512]⟩
abbrev S8x32x512 : Shape := ⟨3, ![8, 32, 512]⟩
abbrev S8x8x512x32 : Shape := ⟨4, ![8, 8, 512, 32]⟩
abbrev S8x1x512x32 : Shape := ⟨4, ![8, 1, 512, 32]⟩
abbrev S512x2560 : Shape := ⟨2, ![512, 2560]⟩
abbrev S1x1x32x512 : Shape := ⟨4, ![1, 1, 32, 512]⟩
abbrev S32x512 : Shape := ⟨2, ![32, 512]⟩
abbrev S1x1x32 : Shape := ⟨3, ![1, 1, 32]⟩
abbrev S32 : Shape := ⟨1, ![32]⟩
abbrev S32x1 : Shape := ⟨2, ![32, 1]⟩
abbrev S1x512 : Shape := ⟨2, ![1, 512]⟩
abbrev S512 : Shape := ⟨1, ![512]⟩
abbrev S512x1 : Shape := ⟨2, ![512, 1]⟩
abbrev S512x32 : Shape := ⟨2, ![512, 32]⟩
abbrev S1x1x512x32 : Shape := ⟨4, ![1, 1, 512, 32]⟩
abbrev S8x512x8x32 : Shape := ⟨4, ![8, 512, 8, 32]⟩

abbrev nBuf : Space → Nat
  | .hbm => 89
  | .vmem => 22
  | .smem => 0
  | _ => 0

abbrev bufTy : (tb : Table) → Fin (tcTables nBuf tb) → BufTy
  | .hbm, ⟨0, _⟩ => ⟨S8x512x256, .f32⟩
  | .hbm, ⟨1, _⟩ => ⟨S8x512, .f32⟩
  | .hbm, ⟨2, _⟩ => ⟨S2x8192, .i32⟩
  | .hbm, ⟨3, _⟩ => ⟨S8, .i32⟩
  | .hbm, ⟨4, _⟩ => ⟨S256x256, .f32⟩
  | .hbm, ⟨5, _⟩ => ⟨S264x256, .f32⟩
  | .hbm, ⟨6, _⟩ => ⟨S256x256, .f32⟩
  | .hbm, ⟨7, _⟩ => ⟨S_, .f32⟩
  | .hbm, ⟨8, _⟩ => ⟨S512x512, .f32⟩
  | .hbm, ⟨9, _⟩ => ⟨S1x8192, .i32⟩
  | .hbm, ⟨10, _⟩ => ⟨S8192, .i32⟩
  | .hbm, ⟨11, _⟩ => ⟨S1x8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x1, .i32⟩
  | .hbm, ⟨29, _⟩ => ⟨S8192x2, .i32⟩
  | .hbm, ⟨30, _⟩ => ⟨S_, .f32⟩
  | .hbm, ⟨31, _⟩ => ⟨S8192, .f32⟩
  | .hbm, ⟨32, _⟩ => ⟨S512x512, .f32⟩
  | .hbm, ⟨33, _⟩ => ⟨S5, .f32⟩
  | .hbm, ⟨34, _⟩ => ⟨S5, .f32⟩
  | .hbm, ⟨35, _⟩ => ⟨S_, .f32⟩
  | .hbm, ⟨36, _⟩ => ⟨S5, .f32⟩
  | .hbm, ⟨37, _⟩ => ⟨S5, .f32⟩
  | .hbm, ⟨38, _⟩ => ⟨S5, .f32⟩
  | .hbm, ⟨39, _⟩ => ⟨S5, .f32⟩
  | .hbm, ⟨40, _⟩ => ⟨S_, .f32⟩
  | .hbm, ⟨41, _⟩ => ⟨S5, .f32⟩
  | .hbm, ⟨42, _⟩ => ⟨S5, .f32⟩
  | .hbm, ⟨43, _⟩ => ⟨S5, .f32⟩
  | .hbm, ⟨44, _⟩ => ⟨S5x1, .f32⟩
  | .hbm, ⟨45, _⟩ => ⟨S5x1, .f32⟩
  | .hbm, ⟨46, _⟩ => ⟨S5x2, .f32⟩
  | .hbm, ⟨47, _⟩ => ⟨S3, .f32⟩
  | .hbm, ⟨48, _⟩ => ⟨S_, .f32⟩
  | .hbm, ⟨49, _⟩ => ⟨S3, .f32⟩
  | .hbm, ⟨50, _⟩ => ⟨S3, .f32⟩
  | .hbm, ⟨51, _⟩ => ⟨S_, .f32⟩
  | .hbm, ⟨52, _⟩ => ⟨S3, .f32⟩
  | .hbm, ⟨53, _⟩ => ⟨S3, .f32⟩
  | .hbm, ⟨54, _⟩ => ⟨S_, .f32⟩
  | .hbm, ⟨55, _⟩ => ⟨S3, .f32⟩
  | .hbm, ⟨56, _⟩ => ⟨S3, .f32⟩
  | .hbm, ⟨57, _⟩ => ⟨S5x1, .f32⟩
  | .hbm, ⟨58, _⟩ => ⟨S1x3, .f32⟩
  | .hbm, ⟨59, _⟩ => ⟨S5x3, .f32⟩
  | .hbm, ⟨60, _⟩ => ⟨S5x3, .f32⟩
  | .hbm, ⟨61, _⟩ => ⟨S5x3, .f32⟩
  | .hbm, ⟨62, _⟩ => ⟨S5x3, .f32⟩
  | .hbm, ⟨63, _⟩ => ⟨S5x3, .f32⟩
  | .hbm, ⟨64, _⟩ => ⟨S5x8, .f32⟩
  | .hbm, ⟨65, _⟩ => ⟨S5x8x1, .f32⟩
  | .hbm, ⟨66, _⟩ => ⟨S8x256, .f32⟩
  | .hbm, ⟨67, _⟩ => ⟨S1x8x256, .f32⟩
  | .hbm, ⟨68, _⟩ => ⟨S5x8x256, .f32⟩
  | .hbm, ⟨69, _⟩ => ⟨S5x8x256, .f32⟩
  | .hbm, ⟨70, _⟩ => ⟨S5x8x256, .f32⟩
  | .hbm, ⟨71, _⟩ => ⟨S_, .f32⟩
  | .hbm, ⟨72, _⟩ => ⟨S5x256, .f32⟩
  | .hbm, ⟨73, _⟩ => ⟨S_, .i32⟩
  | .hbm, ⟨74, _⟩ => ⟨S_, .f32⟩
  | .hbm, ⟨75, _⟩ => ⟨S8x256, .f32⟩
  | .hbm, ⟨76, _⟩ => ⟨S8x8x32, .f32⟩
  | .hbm, ⟨77, _⟩ => ⟨S8x8x32, .f32⟩
  | .hbm, ⟨78, _⟩ => ⟨S8x256x512, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S8x8x32x512, .f32⟩
  | .hbm, ⟨84, _⟩ => ⟨S8x8x32x512, .f32⟩
  | .hbm, ⟨85, _⟩ => ⟨S8x8x32x512, .f32⟩
  | .hbm, ⟨86, _⟩ => ⟨S8x8x512x32, .f32⟩
  | .hbm, ⟨87, _⟩ => ⟨S8x512x8x32, .f32⟩
  | .hbm, ⟨88, _⟩ => ⟨S8x512x256, .f32⟩
  | .local _ .vmem, ⟨0, _⟩ => ⟨S1x256x512, .f32⟩
  | .local _ .vmem, ⟨1, _⟩ => ⟨S1x256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S8x1x32x512, .f32⟩
  | .local _ .vmem, ⟨6, _⟩ => ⟨S8x1x32x512, .f32⟩
  | .local _ .vmem, ⟨7, _⟩ => ⟨S8x1x32x512, .f32⟩
  | .local _ .vmem, ⟨8, _⟩ => ⟨S8x1x32x512, .f32⟩
  | .local _ .vmem, ⟨9, _⟩ => ⟨S8x1x32x512, .f32⟩
  | .local _ .vmem, ⟨10, _⟩ => ⟨S8x1x32x512, .f32⟩
  | .local _ .vmem, ⟨11, _⟩ => ⟨S8x1x32x512, .f32⟩
  | .local _ .vmem, ⟨12, _⟩ => ⟨S8x1x32x512, .f32⟩
  | .local _ .vmem, ⟨13, _⟩ => ⟨S8x8x32x512, .f32⟩
  | .local _ .vmem, ⟨14, _⟩ => ⟨S8x8x32x512, .f32⟩
  | .local _ .vmem, ⟨15, _⟩ => ⟨S512x512, .f32⟩
  | .local _ .vmem, ⟨16, _⟩ => ⟨S8x512, .f32⟩
  | .local _ .vmem, ⟨17, _⟩ => ⟨S8x8x32, .f32⟩
  | .local _ .vmem, ⟨18, _⟩ => ⟨S8x1x512x32, .f32⟩
  | .local _ .vmem, ⟨19, _⟩ => ⟨S8x1x512x32, .f32⟩
  | .local _ .vmem, ⟨20, _⟩ => ⟨S512x2560, .f32⟩
  | .local _ .vmem, ⟨21, _⟩ => ⟨S512x2560, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_c_10 : Ref sig .tc := ⟨.hbm, 73, rfl⟩
abbrev main_call0_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v62_2 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_off1 (k1_t1 : Fin k1_t1_loop.trips) : Fin 4 → Nat :=
  let c0_i32 : BitVec 32 := 0#32
  let c1_i32 : BitVec 32 := 1#32
  let arg10 : BitVec 32 := Scf.iv c0_i32 c1_i32 k1_t1
  let v5 : Index := Scalar.indexCast arg10
  let c0_2 : Index := 0#32
  let c0_3 : Index := 0#32
  let c0_4 : Index := 0#32
  ![v5.toNat, 0, 0, 0]
def k1_off2 (i : grid1.Coords) (k1_t1 : Fin k1_t1_loop.trips) (c0_i32_5 : BitVec 32) : Fin 4 → Nat :=
  let c0_i32 : BitVec 32 := 0#32
  let c1_i32 : BitVec 32 := 1#32
  let arg10 : BitVec 32 := Scf.iv c0_i32 c1_i32 k1_t1
  let v10 : Index := Scalar.indexCast arg10
  let arg0 : BitVec 32 := BitVec.ofNat 32 (i 0).val
  let v8 : BitVec 32 := Scalar.subi arg0 c0_i32_5
  let c0_i32_6 : BitVec 32 := 0#32
  let v9 : BitVec 32 := Scalar.maxsi v8 c0_i32_6
  let v11 : Index := Scalar.indexCast v9
  let c0_7 : Index := 0#32
  let c0_8 : Index := 0#32
  ![v10.toNat, v11.toNat, 0, 0]
def k1_off3 (k1_t1 : Fin k1_t1_loop.trips) : Fin 3 → Nat :=
  let c0_i32 : BitVec 32 := 0#32
  let c1_i32 : BitVec 32 := 1#32
  let arg10 : BitVec 32 := Scf.iv c0_i32 c1_i32 k1_t1
  let v14 : Index := Scalar.indexCast arg10
  let c0_9 : Index := 0#32
  let c0_10 : Index := 0#32
  ![v14.toNat, 0, 0]
def k1_off4 (i : grid1.Coords) (c0_i32_5 : BitVec 32) : Fin 2 → Nat :=
  let arg0 : BitVec 32 := BitVec.ofNat 32 (i 0).val
  let v8 : BitVec 32 := Scalar.subi arg0 c0_i32_5
  let c0_i32_6 : BitVec 32 := 0#32
  let v9 : BitVec 32 := Scalar.maxsi v8 c0_i32_6
  let v21 : Index := Scalar.indexCast v9
  let c0_12 : Index := 0#32
  ![v21.toNat, 0]
def k1_off5 (k1_t1 : Fin k1_t1_loop.trips) : Fin 3 → Nat :=
  let c0_i32 : BitVec 32 := 0#32
  let c1_i32 : BitVec 32 := 1#32
  let arg10 : BitVec 32 := Scf.iv c0_i32 c1_i32 k1_t1
  let v54 : Index := Scalar.indexCast arg10
  let c1 : Index := 1#32
  let c0_27 : Index := 0#32
  ![v54.toNat, 1, 0]
def k1_off6 (k1_t1 : Fin k1_t1_loop.trips) : Fin 3 → Nat :=
  let c0_i32 : BitVec 32 := 0#32
  let c1_i32 : BitVec 32 := 1#32
  let arg10 : BitVec 32 := Scf.iv c0_i32 c1_i32 k1_t1
  let v94 : Index := Scalar.indexCast arg10
  let c2 : Index := 2#32
  let c0_42 : Index := 0#32
  ![v94.toNat, 2, 0]
def k1_off7 (k1_t1 : Fin k1_t1_loop.trips) : Fin 3 → Nat :=
  let c0_i32 : BitVec 32 := 0#32
  let c1_i32 : BitVec 32 := 1#32
  let arg10 : BitVec 32 := Scf.iv c0_i32 c1_i32 k1_t1
  let v134 : Index := Scalar.indexCast arg10
  let c3 : Index := 3#32
  let c0_57 : Index := 0#32
  ![v134.toNat, 3, 0]
def k1_off8 (k1_t1 : Fin k1_t1_loop.trips) : Fin 3 → Nat :=
  let c0_i32 : BitVec 32 := 0#32
  let c1_i32 : BitVec 32 := 1#32
  let arg10 : BitVec 32 := Scf.iv c0_i32 c1_i32 k1_t1
  let v174 : Index := Scalar.indexCast arg10
  let c4 : Index := 4#32
  let c0_72 : Index := 0#32
  ![v174.toNat, 4, 0]
@[reducible] def k1_t2_loop : Scf.Loop 32 :=
  let c0_i32_88 : BitVec 32 := 0#32
  let c15_i32 : BitVec 32 := 15#32
  let v212 : BitVec 32 := Scalar.addi c0_i32_88 c15_i32
  let c1_i32_89 : BitVec 32 := 1#32
  ⟨c0_i32_88, v212, c1_i32_89⟩
def k1_off9 (k1_t1 : Fin k1_t1_loop.trips) : Fin 4 → Nat :=
  let c0_i32 : BitVec 32 := 0#32
  let c1_i32 : BitVec 32 := 1#32
  let arg10 : BitVec 32 := Scf.iv c0_i32 c1_i32 k1_t1
  let v340 : Index := Scalar.indexCast arg10
  let c0_149 : Index := 0#32
  let c0_150 : Index := 0#32
  let c0_151 : Index := 0#32
  ![v340.toNat, 0, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S8x1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8x32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x8x32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x8x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x1x512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "bias1" => some ((-(Real.log 2) : ℝ) : EReal)
  | "bias2" => some ((-(Real.log 3) : ℝ) : EReal)
  | "bias3" => some ((-(Real.log 4) : ℝ) : EReal)
  | "bias4" => some ((-(Real.log 5) : ℝ) : EReal)
  | "mask" => some ⊥
  | _ => none
-- ==== ReferenceIdeal.lean ====
abbrev S8x512x256 : Shape := ⟨3, ![8, 512, 256]⟩
abbrev S8x512 : Shape := ⟨2, ![8, 512]⟩
abbrev S2x8192 : Shape := ⟨2, ![2, 8192]⟩
abbrev S8 : Shape := ⟨1, ![8]⟩
abbrev S256x256 : Shape := ⟨2, ![256, 256]⟩
abbrev S264x256 : Shape := ⟨2, ![264, 256]⟩
abbrev S5 : Shape := ⟨1, ![5]⟩
abbrev S_ : Shape := ⟨0, ![]⟩
abbrev S5x1 : Shape := ⟨2, ![5, 1]⟩
abbrev S5x2 : Shape := ⟨2, ![5, 2]⟩
abbrev S3 : Shape := ⟨1, ![3]⟩
abbrev S1x3 : Shape := ⟨2, ![1, 3]⟩
abbrev S5x3 : Shape := ⟨2, ![5, 3]⟩
abbrev S5x8 : Shape := ⟨2, ![5, 8]⟩
abbrev S8x1 : Shape := ⟨2, ![8, 1]⟩
abbrev S1x5 : Shape := ⟨2, ![1, 5]⟩
abbrev S8x5 : Shape := ⟨2, ![8, 5]⟩
abbrev S8x512x8x32 : Shape := ⟨4, ![8, 512, 8, 32]⟩
abbrev S8x5x1 : Shape := ⟨3, ![8, 5, 1]⟩
abbrev S8x5x512x256 : Shape := ⟨4, ![8, 5, 512, 256]⟩
abbrev S1x5x1x8 : Shape := ⟨4, ![1, 5, 1, 8]⟩
abbrev S8x5x512x8 : Shape := ⟨4, ![8, 5, 512, 8]⟩
abbrev S8x5x512x264 : Shape := ⟨4, ![8, 5, 512, 264]⟩
abbrev S8x5x512x8x32 : Shape := ⟨5, ![8, 5, 512, 8, 32]⟩
abbrev S8x8x512x5x512 : Shape := ⟨5, ![8, 8, 512, 5, 512]⟩
abbrev S1x1x1x5x1 : Shape := ⟨5, ![1, 1, 1, 5, 1]⟩
abbrev S8x5x512 : Shape := ⟨3, ![8, 5, 512]⟩
abbrev S8x1x1x5x512 : Shape := ⟨5, ![8, 1, 1, 5, 512]⟩
abbrev S8x8x512x2560 : Shape := ⟨4, ![8, 8, 512, 2560]⟩
abbrev S512x512 : Shape := ⟨2, ![512, 512]⟩
abbrev S1x8192 : Shape := ⟨2, ![1, 8192]⟩
abbrev S8192 : Shape := ⟨1, ![8192]⟩
abbrev S8192x1 : Shape := ⟨2, ![8192, 1]⟩
abbrev S8192x2 : Shape := ⟨2, ![8192, 2]⟩
abbrev S1x512x1x512 : Shape := ⟨4, ![1, 512, 1, 512]⟩
abbrev S8x1x5x1 : Shape := ⟨4, ![8, 1, 5, 1]⟩
abbrev S8x512x5x512 : Shape := ⟨4, ![8, 512, 5, 512]⟩
abbrev S8x1x512x2560 : Shape := ⟨4, ![8, 1, 512, 2560]⟩
abbrev S8x8x512x16 : Shape := ⟨4, ![8, 8, 512, 16]⟩
abbrev S8x8x512x1 : Shape := ⟨4, ![8, 8, 512, 1]⟩
abbrev S8x8x512 : Shape := ⟨3, ![8, 8, 512]⟩
abbrev S8x2560x8x32 : Shape := ⟨4, ![8, 2560, 8, 32]⟩
abbrev S8x8x32x512 : Shape := ⟨4, ![8, 8, 32, 512]⟩

abbrev nBuf : Space → Nat
  | .hbm => 182
  | .vmem => 0
  | .smem => 0
  | _ => 0

abbrev hbmTy0_0 (i : Nat) : BufTy := match i % 128 with
  | 0 => ⟨S8x512x256, .f32⟩
  | 1 => ⟨S8x512, .f32⟩
  | 2 => ⟨S2x8192, .i32⟩
  | 3 => ⟨S8, .i32⟩
  | 4 => ⟨S256x256, .f32⟩
  | 5 => ⟨S264x256, .f32⟩
  | 6 => ⟨S256x256, .f32⟩
  | 7 => ⟨S5, .f32⟩
  | 8 => ⟨S5, .f32⟩
  | 9 => ⟨S_, .f32⟩
  | 10 => ⟨S5, .f32⟩
  | 11 => ⟨S5, .f32⟩
  | 12 => ⟨S5, .f32⟩
  | 13 => ⟨S5, .f32⟩
  | 14 => ⟨S_, .f32⟩
  | 15 => ⟨S5, .f32⟩
  | 16 => ⟨S5, .f32⟩
  | 17 => ⟨S5, .f32⟩
  | 18 => ⟨S5x1, .f32⟩
  | 19 => ⟨S5x1, .f32⟩
  | 20 => ⟨S5x2, .f32⟩
  | 21 => ⟨S3, .f32⟩
  | 22 => ⟨S_, .f32⟩
  | 23 => ⟨S3, .f32⟩
  | 24 => ⟨S3, .f32⟩
  | 25 => ⟨S_, .f32⟩
  | 26 => ⟨S3, .f32⟩
  | 27 => ⟨S3, .f32⟩
  | 28 => ⟨S_, .f32⟩
  | 29 => ⟨S3, .f32⟩
  | 30 => ⟨S3, .f32⟩
  | 31 => ⟨S5x1, .f32⟩
  | 32 => ⟨S1x3, .f32⟩
  | 33 => ⟨S5x3, .f32⟩
  | 34 => ⟨S5x3, .f32⟩
  | 35 => ⟨S5x3, .f32⟩
  | 36 => ⟨S5x3, .f32⟩
  | 37 => ⟨S5x3, .f32⟩
  | 38 => ⟨S5x8, .f32⟩
  | 39 => ⟨S5, .f32⟩
  | 40 => ⟨S5, .f32⟩
  | 41 => ⟨S8, .i32⟩
  | 42 => ⟨S8x1, .i32⟩
  | 43 => ⟨S5, .i32⟩
  | 44 => ⟨S1x5, .i32⟩
  | 45 => ⟨S8x5, .i32⟩
  | 46 => ⟨S8x5, .i32⟩
  | 47 => ⟨S8x5, .i32⟩
  | 48 => ⟨S_, .i32⟩
  | 49 => ⟨S8x5, .i32⟩
  | 50 => ⟨S8x5, .i32⟩
  | 51 => ⟨S8x512x256, .f32⟩
  | 52 => ⟨S8x512x8x32, .f32⟩
  | 53 => ⟨S_, .i32⟩
  | 54 => ⟨S8x5, .i32⟩
  | 55 => ⟨S8x5, .i1⟩
  | 56 => ⟨S_, .i32⟩
  | 57 => ⟨S8x5, .i32⟩
  | 58 => ⟨S8x5, .i32⟩
  | 59 => ⟨S8x5, .i32⟩
  | 60 => ⟨S8x5x1, .i32⟩
  | 61 => ⟨S8x5x512x256, .f32⟩
  | 62 => ⟨S1x5x1x8, .f32⟩
  | 63 => ⟨S8x5x512x8, .f32⟩
  | 64 => ⟨S8x5x512x264, .f32⟩
  | 65 => ⟨S8x5x512x256, .f32⟩
  | 66 => ⟨S8x5x512x8x32, .f32⟩
  | 67 => ⟨S8x8x512x5x512, .f32⟩
  | 68 => ⟨S_, .f32⟩
  | 69 => ⟨S8x8x512x5x512, .f32⟩
  | 70 => ⟨S8x8x512x5x512, .f32⟩
  | 71 => ⟨S5x1, .f32⟩
  | 72 => ⟨S1x1x1x5x1, .f32⟩
  | 73 => ⟨S8x8x512x5x512, .f32⟩
  | 74 => ⟨S8x8x512x5x512, .f32⟩
  | 75 => ⟨S_, .i32⟩
  | 76 => ⟨S8x5, .i32⟩
  | 77 => ⟨S8x5, .i1⟩
  | 78 => ⟨S_, .i32⟩
  | 79 => ⟨S8x5, .i32⟩
  | 80 => ⟨S8x5, .i32⟩
  | 81 => ⟨S8x5, .i32⟩
  | 82 => ⟨S8x5x1, .i32⟩
  | 83 => ⟨S8x5x512, .f32⟩
  | 84 => ⟨S_, .f32⟩
  | 85 => ⟨S8x5x512, .f32⟩
  | 86 => ⟨S8x5x512, .f32⟩
  | 87 => ⟨S_, .f32⟩
  | 88 => ⟨S8x5x512, .f32⟩
  | 89 => ⟨S8x5x512, .f32⟩
  | 90 => ⟨S_, .f32⟩
  | 91 => ⟨S8x5x512, .f32⟩
  | 92 => ⟨S8x5x512, .f32⟩
  | 93 => ⟨S8x5x512, .f32⟩
  | 94 => ⟨S8x1x1x5x512, .f32⟩
  | 95 => ⟨S8x8x512x5x512, .f32⟩
  | 96 => ⟨S8x8x512x5x512, .f32⟩
  | 97 => ⟨S8x8x512x2560, .f32⟩
  | 98 => ⟨S_, .f32⟩
  | 99 => ⟨S8x8x512x2560, .f32⟩
  | 100 => ⟨S8x8x512x2560, .f32⟩
  | 101 => ⟨S_, .i1⟩
  | 102 => ⟨S512x512, .i1⟩
  | 103 => ⟨S1x8192, .i32⟩
  | 104 => ⟨S8192, .i32⟩
  | 105 => ⟨S1x8192, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x1, .i32⟩
  | 123 => ⟨S8192x2, .i32⟩
  | 124 => ⟨S_, .i1⟩
  | 125 => ⟨S8192, .i1⟩
  | 126 => ⟨S512x512, .i1⟩
  | 127 => ⟨S1x512x1x512, .i1⟩
  | _ => ⟨S8x512x256, .f32⟩

abbrev hbmTy0_1 (i : Nat) : BufTy := match i % 128 with
  | 0 => ⟨S_, .i32⟩
  | 1 => ⟨S8x5, .i32⟩
  | 2 => ⟨S8x5, .i1⟩
  | 3 => ⟨S8x1x5x1, .i1⟩
  | 4 => ⟨S8x512x5x512, .i1⟩
  | 5 => ⟨S8x512x5x512, .i1⟩
  | 6 => ⟨S8x512x5x512, .i1⟩
  | 7 => ⟨S8x1x512x2560, .i1⟩
  | 8 => ⟨S8x8x512x2560, .i1⟩
  | 9 => ⟨S_, .f32⟩
  | 10 => ⟨S8x8x512x2560, .f32⟩
  | 11 => ⟨S8x8x512x2560, .f32⟩
  | 12 => ⟨S8x8x512x16, .f32⟩
  | 13 => ⟨S8x8x512x16, .i32⟩
  | 14 => ⟨S8x8x512x1, .f32⟩
  | 15 => ⟨S8x8x512x2560, .f32⟩
  | 16 => ⟨S8x8x512x2560, .i1⟩
  | 17 => ⟨S8x8x512x2560, .i1⟩
  | 18 => ⟨S_, .f32⟩
  | 19 => ⟨S_, .f32⟩
  | 20 => ⟨S8x8x512x2560, .f32⟩
  | 21 => ⟨S8x8x512x2560, .f32⟩
  | 22 => ⟨S_, .f32⟩
  | 23 => ⟨S8x8x512, .f32⟩
  | 24 => ⟨S8x8x512x1, .f32⟩
  | 25 => ⟨S8x8x512x2560, .f32⟩
  | 26 => ⟨S8x8x512x2560, .f32⟩
  | 27 => ⟨S8x8x512x2560, .f32⟩
  | 28 => ⟨S_, .f32⟩
  | 29 => ⟨S_, .f32⟩
  | 30 => ⟨S8x8x512x2560, .f32⟩
  | 31 => ⟨S8x8x512x2560, .f32⟩
  | 32 => ⟨S_, .f32⟩
  | 33 => ⟨S8x8x512, .f32⟩
  | 34 => ⟨S8x8x512x1, .f32⟩
  | 35 => ⟨S_, .f32⟩
  | 36 => ⟨S8x8x512x1, .f32⟩
  | 37 => ⟨S8x8x512x1, .f32⟩
  | 38 => ⟨S8x8x512x2560, .f32⟩
  | 39 => ⟨S8x8x512x2560, .f32⟩
  | 40 => ⟨S8x512x256, .f32⟩
  | 41 => ⟨S_, .i32⟩
  | 42 => ⟨S8x5, .i32⟩
  | 43 => ⟨S8x5, .i1⟩
  | 44 => ⟨S_, .i32⟩
  | 45 => ⟨S8x5, .i32⟩
  | 46 => ⟨S8x5, .i32⟩
  | 47 => ⟨S8x5, .i32⟩
  | 48 => ⟨S8x5x1, .i32⟩
  | 49 => ⟨S8x5x512x256, .f32⟩
  | 50 => ⟨S8x2560x8x32, .f32⟩
  | 51 => ⟨S8x8x32x512, .f32⟩
  | 52 => ⟨S8x512x8x32, .f32⟩
  | 53 => ⟨S8x512x256, .f32⟩
  | _ => ⟨S8x512x256, .f32⟩

abbrev hbmTy (i : Nat) : BufTy := match i / 128 with
  | 0 => hbmTy0_0 i
  | 1 => hbmTy0_1 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_7 : Ref sig .tc := ⟨.hbm, 75, rfl⟩
abbrev main_v59 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_c_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_c_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_16 : Ref sig .tc := ⟨.hbm, 114, rfl⟩
abbrev main_v89 : Ref sig .tc := ⟨.hbm, 115, rfl⟩
abbrev main_v90 : Ref sig .tc := ⟨.hbm, 116, rfl⟩
abbrev main_c_17 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_18 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_19 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_20 : Ref sig .tc := ⟨.hbm, 137, rfl⟩
abbrev main_v108 : Ref sig .tc := ⟨.hbm, 138, rfl⟩
abbrev main_v109 : Ref sig .tc := ⟨.hbm, 139, rfl⟩
abbrev main_values : Ref sig .tc := ⟨.hbm, 140, rfl⟩
abbrev main_indices : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_21 : Ref sig .tc := ⟨.hbm, 146, rfl⟩
abbrev main_call0_v0 : Ref sig .tc := ⟨.hbm, 147, rfl⟩
abbrev main_call0_v1 : Ref sig .tc := ⟨.hbm, 148, rfl⟩
abbrev main_v114 : Ref sig .tc := ⟨.hbm, 149, rfl⟩
abbrev main_cst_22 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_23 : Ref sig .tc := ⟨.hbm, 156, rfl⟩
abbrev main_call1_v0 : Ref sig .tc := ⟨.hbm, 157, rfl⟩
abbrev main_call1_v1 : Ref sig .tc := ⟨.hbm, 158, rfl⟩
abbrev main_v120 : Ref sig .tc := ⟨.hbm, 159, rfl⟩
abbrev main_cst_24 : Ref sig .tc := ⟨.hbm, 160, rfl⟩
abbrev main_v121 : Ref sig .tc := ⟨.hbm, 161, rfl⟩
abbrev main_v122 : Ref sig .tc := ⟨.hbm, 162, rfl⟩
abbrev main_cst_25 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_26 : Ref sig .tc := ⟨.hbm, 169, rfl⟩
abbrev main_v128 : Ref sig .tc := ⟨.hbm, 170, rfl⟩
abbrev main_v129 : Ref sig .tc := ⟨.hbm, 171, rfl⟩
abbrev main_c_27 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩

abbrev nD : Nat := 1
abbrev τ : Topo := Topo.v7x

variable {F : FTy → Type} [FloatOps F]
-- ==== Proof.Run.KernelIdealLoop.lean ====
/- The head loop of the attention kernel: what one trip writes, and the loop's invariant. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one trip of the head loop holds: the blocks it reads at their contents, the output block at `f7`, and the two
    scratch buffers at anything. -/
abbrev HeadRes (c : Dev nD) (arg1 : Memref sig .tc .vmem S8x1x32x512 .f32) (arg2 : Memref sig .tc .vmem S8x8x32x512 .f32) (arg3 : Memref sig .tc .vmem S8x8x32x512 .f32) (arg5 : Memref sig .tc .vmem S8x512 .f32) (arg6 : Memref sig .tc .vmem S8x8x32 .f32) (arg7 : Memref sig .tc .vmem S8x1x512x32 .f32) (arg8 : Memref sig .tc .vmem S512x2560 .f32) (arg9 : Memref sig .tc .vmem S512x2560 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (f7 : BufTy.Contents (Elt F) arg7.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (∃ f, (arg8.view.loc (c : Thread nD τ) ↦[arg8.view.set]{fullShare} f)) ∗ (∃ f, (arg9.view.loc (c : Thread nD τ) ↦[arg9.view.set]{fullShare} f)))

set_option maxHeartbeats 2000000 in
/-- One trip of the head loop, at a symbolic head: the pieces it leaves in the output block. -/
@[irreducible] def headTrip (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : Fin k1_t1_loop.trips) :
    { L7 : List (View.Piece (Elt F) S8x1x512x32 .f32) // ∀ (E : Set ℕ) (f7 : BufTy.Contents (Elt F) arg7.view.ty),
      HeadRes (F := F) c arg1 arg2 arg3 arg5 arg6 arg7 arg8 arg9 X1 X2 X3 X5 X6 f7
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg0 v0 k PUnit.unit)
          (fun _ => HeadRes (F := F) c arg1 arg2 arg3 arg5 arg6 arg7 arg8 arg9 X1 X2 X3 X5 X6 (arg7.view.writes (Elt F) f7 L7)) } := by
  have hk : k.val < 8 := Nat.lt_of_lt_of_le k.isLt k1_t1_abs.2.1
  refine ⟨?_, fun E f7 => ?run⟩
  case run =>
    unfold k1_t1_body
    simp only [k1_part1_eq_skeleton, k1_part2_eq_skeleton, k1_part3_eq_skeleton, k1_part4_eq_skeleton, k1_part5_eq_skeleton, k1_part6_eq_skeleton, k1_part7_eq_skeleton, k1_part8_eq_skeleton]
    iintro ⟨H1, H2, H3, H5, H6, H7, ⟨%f8, H8⟩, ⟨%f9, H9⟩⟩
    sl_exec
    sl_step
    isplitl [H1]; · iexact H1
    isplitl [H2]; · iexact H2
    isplitl [H3]; · iexact H3
    isplitl [H5]; · iexact H5
    isplitl [H6]; · iexact H6
    isplitl [H7]; · iexact H7
    isplitl [H8]; · iexists _; iexact H8
    iexists _; iexact H9

/-- The pieces of head `k` in front of those of the heads before it. -/
@[irreducible] def headStep (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : ℕ) (prev : List (View.Piece (Elt F) S8x1x512x32 .f32)) : List (View.Piece (Elt F) S8x1x512x32 .f32) :=
  if h : k < k1_t1_loop.trips then (headTrip (F := F) c i arg1 harg1 arg2 harg2 arg3 harg3 arg4 harg4 arg5 harg5 arg6 harg6 arg7 harg7 arg8 harg8 arg9 harg9 arg0 v0 X1 X2 X3 X5 X6 ⟨k, h⟩).1 ++ prev else prev

/-- The pieces the heads before `k` leave in the output block, last first. -/
def heads (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) : ℕ → List (View.Piece (Elt F) S8x1x512x32 .f32)
  | 0 => []
  | k + 1 => headStep (F := F) c i arg1 harg1 arg2 harg2 arg3 harg3 arg4 harg4 arg5 harg5 arg6 harg6 arg7 harg7 arg8 harg8 arg9 harg9 arg0 v0 X1 X2 X3 X5 X6 k (heads c i arg1 harg1 arg2 harg2 arg3 harg3 arg4 harg4 arg5 harg5 arg6 harg6 arg7 harg7 arg8 harg8 arg9 harg9 arg0 v0 X1 X2 X3 X5 X6 k)

/-- One more head puts its pieces in front. -/
theorem heads_succ (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : Fin k1_t1_loop.trips) :
    heads (F := F) c i arg1 harg1 arg2 harg2 arg3 harg3 arg4 harg4 arg5 harg5 arg6 harg6 arg7 harg7 arg8 harg8 arg9 harg9 arg0 v0 X1 X2 X3 X5 X6 (k.val + 1)
      = (headTrip (F := F) c i arg1 harg1 arg2 harg2 arg3 harg3 arg4 harg4 arg5 harg5 arg6 harg6 arg7 harg7 arg8 harg8 arg9 harg9 arg0 v0 X1 X2 X3 X5 X6 k).1 ++ heads (F := F) c i arg1 harg1 arg2 harg2 arg3 harg3 arg4 harg4 arg5 harg5 arg6 harg6 arg7 harg7 arg8 harg8 arg9 harg9 arg0 v0 X1 X2 X3 X5 X6 k.val := by
  rw [heads.eq_2]; unfold headStep; exact dif_pos k.isLt

/-- Before head `k`: the blocks read at their contents, the output block at the pieces of the heads before, the scratch
    buffers at anything. -/
abbrev headInv (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (G7 : BufTy.Contents (Elt F) arg7.view.ty) (k : ℕ) (_u : PUnit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜f = arg7.view.writes (Elt F) G7 (heads (F := F) c i arg1 harg1 arg2 harg2 arg3 harg3 arg4 harg4 arg5 harg5 arg6 harg6 arg7 harg7 arg8 harg8 arg9 harg9 arg0 v0 X1 X2 X3 X5 X6 k)⌝) ∗ (∃ f, (arg8.view.loc (c : Thread nD τ) ↦[arg8.view.set]{fullShare} f)) ∗ (∃ f, (arg9.view.loc (c : Thread nD τ) ↦[arg9.view.set]{fullShare} f)))

set_option warn.classDefReducibility false in
/-- The head loop by its invariant. -/
@[sl_loop] def headLoop (c : Dev nD) (E : Set ℕ) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (G7 : BufTy.Contents (Elt F) arg7.view.ty) :
    LoopInvTy_k1_t1 (F := F) Unit ℕ (UR sig nD τ) ℕ Variants.none c none E i arg1 harg1 arg2 harg2 arg3 harg3 arg4 harg4 arg5 harg5 arg6 harg6 arg7 harg7 arg8 harg8 arg9 harg9 arg0 v0 where
  inv := headInv (F := F) c i arg1 harg1 arg2 harg2 arg3 harg3 arg4 harg4 arg5 harg5 arg6 harg6 arg7 harg7 arg8 harg8 arg9 harg9 arg0 v0 X1 X2 X3 X5 X6 G7
  step k acc := by
    iintro ⟨H1, H2, H3, H5, H6, ⟨%f7, H7, %h7⟩, H8, H9⟩
    iapply (wp_wand_r Idealize.ShloMosaic.frame (wpE (defs₀ (F := F)) Variants.none (c : Thread nD τ) none) E)
    isplitl [H1 H2 H3 H5 H6 H7 H8 H9]
    · iapply ((headTrip (F := F) c i arg1 harg1 arg2 harg2 arg3 harg3 arg4 harg4 arg5 harg5 arg6 harg6 arg7 harg7 arg8 harg8 arg9 harg9 arg0 v0 X1 X2 X3 X5 X6 k).2 E f7)
      isplitl [H1]; · iexact H1
      isplitl [H2]; · iexact H2
      isplitl [H3]; · iexact H3
      isplitl [H5]; · iexact H5
      isplitl [H6]; · iexact H6
      isplitl [H7]; · iexact H7
      isplitl [H8]; · iexact H8
      iexact H9
    · iintro %_ ⟨H1, H2, H3, H5, H6, H7, H8, H9⟩
      unfold headInv
      rw [heads_succ]
      isplitl [H1]; · iexact H1
      isplitl [H2]; · iexact H2
      isplitl [H3]; · iexact H3
      isplitl [H5]; · iexact H5
      isplitl [H6]; · iexact H6
      isplitl [H7]
      · iexists _; isplitl [H7]; · iexact H7
        ipureintro; rw [h7, ← View.writes_append]
      isplitl [H8]; · iexact H8
      iexact H9

/-- The loop runs once per head. -/
theorem head_trips : k1_t1_loop.trips = 8 := by decide +kernel

/-- Head `k` is stored at row `k` of the output block. -/
theorem off9_eq (k : Fin k1_t1_loop.trips) : k1_off9 k = ![k.val, 0, 0, 0] := by
  revert k; decide +kernel

/-- A trip leaves one piece, the head's row of the output block. -/
theorem headTrip_piece (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : Fin k1_t1_loop.trips) :
    ∃ v, (headTrip (F := F) c i arg1 harg1 arg2 harg2 arg3 harg3 arg4 harg4 arg5 harg5 arg6 harg6 arg7 harg7 arg8 harg8 arg9 harg9 arg0 v0 X1 X2 X3 X5 X6 k).1 = [⟨Rect.unit (k1_off9 k) S1x1x512x32.size (k1_off9_inb k), v⟩] := by
  unfold headTrip; exact ⟨_, rfl⟩

/-- Every head before `n` has its row among the pieces. -/
theorem heads_mem (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (n : ℕ) (hn : n ≤ k1_t1_loop.trips) (k : Fin k1_t1_loop.trips) (hk : k.val < n) :
    ∃ v, (⟨Rect.unit (k1_off9 k) S1x1x512x32.size (k1_off9_inb k), v⟩ : View.Piece (Elt F) S8x1x512x32 .f32) ∈ heads (F := F) c i arg1 harg1 arg2 harg2 arg3 harg3 arg4 harg4 arg5 harg5 arg6 harg6 arg7 harg7 arg8 harg8 arg9 harg9 arg0 v0 X1 X2 X3 X5 X6 n := by
  induction n with
  | zero => exact absurd hk (Nat.not_lt_zero _)
  | succ n ih =>
    rw [heads_succ (k := ⟨n, hn⟩)]
    by_cases h : k.val = n
    · obtain ⟨v, hv⟩ := headTrip_piece c i arg1 harg1 arg2 harg2 arg3 harg3 arg4 harg4 arg5 harg5 arg6 harg6 arg7 harg7 arg8 harg8 arg9 harg9 arg0 v0 X1 X2 X3 X5 X6 ⟨n, hn⟩
      rw [hv]
      have hkn : k = ⟨n, hn⟩ := Fin.ext h
      subst hkn
      exact ⟨v, by simp⟩
    · obtain ⟨v, hv⟩ := ih (Nat.le_of_succ_le hn) (by omega)
      exact ⟨v, List.mem_append_right _ hv⟩

/-- All the heads together fill the output block. -/
theorem heads_cover (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (y : S8x1x512x32.Idx) :
    ∃ p ∈ heads (F := F) c i arg1 harg1 arg2 harg2 arg3 harg3 arg4 harg4 arg5 harg5 arg6 harg6 arg7 harg7 arg8 harg8 arg9 harg9 arg0 v0 X1 X2 X3 X5 X6 k1_t1_loop.trips, y ∈ p.1.set := by
  have hy : (y 0).val < k1_t1_loop.trips := head_trips ▸ (y 0).isLt
  obtain ⟨v, hv⟩ := heads_mem c i arg1 harg1 arg2 harg2 arg3 harg3 arg4 harg4 arg5 harg5 arg6 harg6 arg7 harg7 arg8 harg8 arg9 harg9 arg0 v0 X1 X2 X3 X5 X6 k1_t1_loop.trips le_rfl ⟨(y 0).val, hy⟩ hy
  refine ⟨_, hv, ?_⟩
  rw [Rect.mem_set_unit, off9_eq]
  intro a
  match a with
  | ⟨0, _⟩ => exact ⟨le_rfl, Nat.lt_succ_self _⟩
  | ⟨1, _⟩ => exact ⟨Nat.zero_le _, by simpa using (y 1).isLt⟩
  | ⟨2, _⟩ => exact ⟨Nat.zero_le _, by simpa using (y 2).isLt⟩
  | ⟨3, _⟩ => exact ⟨Nat.zero_le _, by simpa using (y 3).isLt⟩

end Cert.KernelIdeal.Run
-- ==== Proof.Run.KernelIdeal.lean ====
/- The kernel program's run: the two regions' windows, bodies and obligations, and the contents at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Run.KernelIdealLoop
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the long axes of the blocks need deep recursion
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole-block rectangle the projection body reads or writes. -/
abbrev r0_0 : Rect S1x256x512 := Rect.unit (s := S1x256x512) ![0, 0, 0] S1x256x512.size inb_S1x256x512_S1x256x512_0_0_0
/-- A whole-block rectangle the projection body reads or writes. -/
abbrev r0_1 : Rect S256x256 := Rect.unit (s := S256x256) ![0, 0] S256x256.size inb_S256x256_S256x256_0_0
/-- A whole-block rectangle the projection body reads or writes. -/
abbrev r0_2 : Rect S8x1x32x512 := Rect.unit (s := S8x1x32x512) ![0, 0, 0, 0] S8x1x32x512.size inb_S8x1x32x512_S8x1x32x512_0_0_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S1x256x512 .f32) (x1 : Vec F S256x256 .f32) (x2 : Vec F S256x256 .f32) (x3 : Vec F S256x256 .f32) : Vec F S8x1x32x512 .f32 :=
  View.canon [⟨r0_2, k0_pay2 (View.ld x0 r0_0) (View.ld x1 r0_1)⟩]

/-- Its stores tile the buffer (checked by evaluation), so they cover it. -/
theorem cover0_4 (p0 : Vec F S8x1x32x512 .f32) (y : S8x1x32x512.Idx) :
    ∃ pc ∈ ([⟨r0_2, p0⟩] : List (View.Piece (Elt F) S8x1x32x512 .f32)), y ∈ pc.1.set :=
  View.cover_of_tiled [⟨r0_2, p0⟩] S8x1x32x512.size (by rfl) y

/-- Window 5's staging buffer after the body, from the input windows' blocks: its 1 store as pieces, LAST
    FIRST (Lib/Pipeline/FrameBody.lean `View.canon`; the payloads are the skeleton's). -/
def out0_5 (x0 : Vec F S1x256x512 .f32) (x1 : Vec F S256x256 .f32) (x2 : Vec F S256x256 .f32) (x3 : Vec F S256x256 .f32) : Vec F S8x1x32x512 .f32 :=
  View.canon [⟨r0_2, k0_pay3 (View.ld x0 r0_0) (View.ld x2 r0_1)⟩]

/-- Its stores tile the buffer (checked by evaluation), so they cover it. -/
theorem cover0_5 (p0 : Vec F S8x1x32x512 .f32) (y : S8x1x32x512.Idx) :
    ∃ pc ∈ ([⟨r0_2, p0⟩] : List (View.Piece (Elt F) S8x1x32x512 .f32)), y ∈ pc.1.set :=
  View.cover_of_tiled [⟨r0_2, p0⟩] S8x1x32x512.size (by rfl) y

/-- Window 6's staging buffer after the body, from the input windows' blocks: its 1 store as pieces, LAST
    FIRST (Lib/Pipeline/FrameBody.lean `View.canon`; the payloads are the skeleton's). -/
def out0_6 (x0 : Vec F S1x256x512 .f32) (x1 : Vec F S256x256 .f32) (x2 : Vec F S256x256 .f32) (x3 : Vec F S256x256 .f32) : Vec F S8x1x32x512 .f32 :=
  View.canon [⟨r0_2, k0_pay4 (View.ld x0 r0_0) (View.ld x3 r0_1)⟩]

/-- Its stores tile the buffer (checked by evaluation), so they cover it. -/
theorem cover0_6 (p0 : Vec F S8x1x32x512 .f32) (y : S8x1x32x512.Idx) :
    ∃ pc ∈ ([⟨r0_2, p0⟩] : List (View.Piece (Elt F) S8x1x32x512 .f32)), y ∈ pc.1.set :=
  View.cover_of_tiled [⟨r0_2, p0⟩] S8x1x32x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x256x512 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S8x1x32x512 .f32) (harg5 : arg5.IsWhole) (arg6 : Memref sig .tc .vmem S8x1x32x512 .f32) (harg6 : arg6.IsWhole) (arg7 : Memref sig .tc .vmem S8x1x32x512 .f32) (harg7 : arg7.IsWhole)
    (x0 : Vec F S1x256x512 .f32) (x1 : Vec F S256x256 .f32) (x2 : Vec F S256x256 .f32) (x3 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What a point of region 0 leaves in window 1. -/
theorem after0_1 (c : Dev nD) (t : Fin cfg0.N) : (dat0 V c).after 1 t = iblk0 V c 1 t := by dsimp only [dat0]
/-- What a point of region 0 leaves in window 2. -/
theorem after0_2 (c : Dev nD) (t : Fin cfg0.N) : (dat0 V c).after 2 t = iblk0 V c 2 t := by dsimp only [dat0]
/-- What a point of region 0 leaves in window 3. -/
theorem after0_3 (c : Dev nD) (t : Fin cfg0.N) : (dat0 V c).after 3 t = iblk0 V c 3 t := by dsimp only [dat0]
/-- What a point of region 0 leaves in window 4. -/
theorem after0_4 (c : Dev nD) (t : Fin cfg0.N) : (dat0 V c).after 4 t = out0_4 (iblk0 V c 0 t) (iblk0 V c 1 t) (iblk0 V c 2 t) (iblk0 V c 3 t) := by dsimp only [dat0]
/-- What a point of region 0 leaves in window 5. -/
theorem after0_5 (c : Dev nD) (t : Fin cfg0.N) : (dat0 V c).after 5 t = out0_5 (iblk0 V c 0 t) (iblk0 V c 1 t) (iblk0 V c 2 t) (iblk0 V c 3 t) := by dsimp only [dat0]
/-- What a point of region 0 leaves in window 6. -/
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What a point of region 0 finds in window 1: the fetched block. -/
theorem before0_1 (c : Dev nD) (t : Fin cfg0.N) (d) : (dat0 V c).before 1 t d = iblk0 V c 1 t :=
  before0_1_of V (dat0 V c) (A_eq0 V c 1) (after0_1 V c) t d
/-- What a point of region 0 finds in window 2: the fetched block. -/
theorem before0_2 (c : Dev nD) (t : Fin cfg0.N) (d) : (dat0 V c).before 2 t d = iblk0 V c 2 t :=
  before0_2_of V (dat0 V c) (A_eq0 V c 2) (after0_2 V c) t d
/-- What a point of region 0 finds in window 3: the fetched block. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__attn_kernel` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S8x1x512x32 .f32 := (Memref.whole cc1_stg6_0 : Memref sig .tc .vmem S8x1x512x32 .f32).view
/-- Each window's current staging memref at point `t`, spelled as the pipeline passes it (`bodyAt1`), and its wholeness. -/
abbrev ms1_0 (t : Fin cfg1.N) : Memref sig .tc .vmem S8x1x32x512 .f32 := win1_0.stage (cfg1.slots t 0)
/-- Window 0's staging buffer is a whole buffer. -/
abbrev hs1_0 (t : Fin cfg1.N) : (ms1_0 t).IsWhole := hstage1_0 ((cfg1.slots t 0).cast nbuf1_0)
/-- Window 1's staging buffer at a point of the attention region. -/
abbrev ms1_1 (t : Fin cfg1.N) : Memref sig .tc .vmem S8x8x32x512 .f32 := win1_1.stage (cfg1.slots t 1)
/-- Window 1's staging buffer is a whole buffer. -/
abbrev hs1_1 (t : Fin cfg1.N) : (ms1_1 t).IsWhole := hstage1_1 ((cfg1.slots t 1).cast nbuf1_1)
/-- Window 2's staging buffer at a point of the attention region. -/
abbrev ms1_2 (t : Fin cfg1.N) : Memref sig .tc .vmem S8x8x32x512 .f32 := win1_2.stage (cfg1.slots t 2)
/-- Window 2's staging buffer is a whole buffer. -/
abbrev hs1_2 (t : Fin cfg1.N) : (ms1_2 t).IsWhole := hstage1_2 ((cfg1.slots t 2).cast nbuf1_2)
/-- Window 3's staging buffer at a point of the attention region. -/
abbrev ms1_3 (t : Fin cfg1.N) : Memref sig .tc .vmem S512x512 .f32 := win1_3.stage (cfg1.slots t 3)
/-- Window 3's staging buffer is a whole buffer. -/
abbrev hs1_3 (t : Fin cfg1.N) : (ms1_3 t).IsWhole := hstage1_3 ((cfg1.slots t 3).cast nbuf1_3)
/-- Window 4's staging buffer at a point of the attention region. -/
abbrev ms1_4 (t : Fin cfg1.N) : Memref sig .tc .vmem S8x512 .f32 := win1_4.stage (cfg1.slots t 4)
/-- Window 4's staging buffer is a whole buffer. -/
abbrev hs1_4 (t : Fin cfg1.N) : (ms1_4 t).IsWhole := hstage1_4 ((cfg1.slots t 4).cast nbuf1_4)
/-- Window 5's staging buffer at a point of the attention region. -/
abbrev ms1_5 (t : Fin cfg1.N) : Memref sig .tc .vmem S8x8x32 .f32 := win1_5.stage (cfg1.slots t 5)
/-- Window 5's staging buffer is a whole buffer. -/
abbrev hs1_5 (t : Fin cfg1.N) : (ms1_5 t).IsWhole := hstage1_5 ((cfg1.slots t 5).cast nbuf1_5)
/-- Window 6's staging buffer at a point of the attention region. -/
abbrev ms1_6 (t : Fin cfg1.N) : Memref sig .tc .vmem S8x1x512x32 .f32 := win1_6.stage (cfg1.slots t 6)
/-- Window 6's staging buffer is a whole buffer. -/
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x2560 .f32 := Memref.whole cc1_scratch0
/-- The attention region's second scratch buffer. -/
abbrev scM1_1 : Memref sig .tc .vmem S512x2560 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole)
    (x0 : Vec F S8x1x32x512 .f32) (x1 : Vec F S8x8x32x512 .f32) (x2 : Vec F S8x8x32x512 .f32) (x3 : Vec F S512x512 .f32) (x4 : Vec F S8x512 .f32) (x5 : Vec F S8x8x32 .f32) :
    { L6 : List (View.Piece (Elt F) S8x1x512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} f) ∗ (∃ f, arg9.view.loc (c : Thread nD τ) ↦[arg9.view.set]{fullShare} f)) -∗ K ⟨⟩))
          ⊢ wp frame (wpE (defs₀ (F := F)) Variants.none c none) E (cc1__attn_kernel i arg1 harg1 arg2 harg2 arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

/-- The run's pieces are those of all the heads. -/
theorem kernelRun1_A_eq (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole)
    (x0 : Vec F S8x1x32x512 .f32) (x1 : Vec F S8x8x32x512 .f32) (x2 : Vec F S8x8x32x512 .f32) (x3 : Vec F S512x512 .f32) (x4 : Vec F S8x512 .f32) (x5 : Vec F S8x8x32 .f32) :
    (kernelRun1_A (F := F) c i arg1 harg1 arg2 harg2 arg3 harg3 arg4 harg4 arg5 harg5 arg6 harg6 arg7 harg7 arg8 harg8 arg9 harg9 x0 x1 x2 x3 x4 x5).1 = heads (F := F) c i arg1 harg1 arg2 harg2 arg3 harg3 arg4 harg4 arg5 harg5 arg6 harg6 arg7 harg7 arg8 harg8 arg9 harg9
      (BitVec.ofNat 32 (i 0).val) (View.readAt (Elt F) arg4.view (Rect.unit (s := S512x512) ![0, 0] S512x512.size inb_S512x512_S512x512_0_0).toLoadRect (harg4.unread x3))
      (harg1.unread x0) (harg2.unread x1) (harg3.unread x2) (harg5.unread x4) (harg6.unread x5) k1_t1_loop.trips := by
  unfold kernelRun1_A; rfl

/-- The run's pieces cover the output block: each head stores its own row. -/
theorem cover1_A_6 (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole)
    (x0 : Vec F S8x1x32x512 .f32) (x1 : Vec F S8x8x32x512 .f32) (x2 : Vec F S8x8x32x512 .f32) (x3 : Vec F S512x512 .f32) (x4 : Vec F S8x512 .f32) (x5 : Vec F S8x8x32 .f32) (y : S8x1x512x32.Idx) :
    ∃ pc ∈ (kernelRun1_A c i arg1 harg1 arg2 harg2 arg3 harg3 arg4 harg4 arg5 harg5 arg6 harg6 arg7 harg7 arg8 harg8 arg9 harg9 x0 x1 x2 x3 x4 x5).1, y ∈ pc.1.set :=
  kernelRun1_A_eq (F := F) c i arg1 harg1 arg2 harg2 arg3 harg3 arg4 harg4 arg5 harg5 arg6 harg6 arg7 harg7 arg8 harg8 arg9 harg9 x0 x1 x2 x3 x4 x5 ▸ heads_cover (F := F) _ _ _ _ _ _ _ _ _ _ _ _ _ _ _ _ _ _ _ _ _ _ _ _ _ _ _ y

/-- What the run leaves in output 6's staging buffer: its pieces read back over junk. -/
def out1_A_6 (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole)
    (x0 : Vec F S8x1x32x512 .f32) (x1 : Vec F S8x8x32x512 .f32) (x2 : Vec F S8x8x32x512 .f32) (x3 : Vec F S512x512 .f32) (x4 : Vec F S8x512 .f32) (x5 : Vec F S8x8x32 .f32) : Vec F S8x1x512x32 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 x0 x1 x2 x3 x4 x5).1)

/-! ## What the outputs hold after each point -/

/-- What the outputs' staging buffers hold after the body at point `t`: the run's contents at
    the point's memrefs and input blocks. -/
def outsAt1 (c : Dev nD) (t : Fin cfg1.N) : Vec F S8x1x512x32 .f32 :=
  out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What a point of region 1 leaves in window 1. -/
theorem after1_1 (c : Dev nD) (t : Fin cfg1.N) : (dat1 V c).after 1 t = iblk1 V c 1 t := by dsimp only [dat1]
/-- What a point of region 1 leaves in window 2. -/
theorem after1_2 (c : Dev nD) (t : Fin cfg1.N) : (dat1 V c).after 2 t = iblk1 V c 2 t := by dsimp only [dat1]
/-- What a point of region 1 leaves in window 3. -/
theorem after1_3 (c : Dev nD) (t : Fin cfg1.N) : (dat1 V c).after 3 t = iblk1 V c 3 t := by dsimp only [dat1]
/-- What a point of region 1 leaves in window 4. -/
theorem after1_4 (c : Dev nD) (t : Fin cfg1.N) : (dat1 V c).after 4 t = iblk1 V c 4 t := by dsimp only [dat1]
/-- What a point of region 1 leaves in window 5. -/
theorem after1_5 (c : Dev nD) (t : Fin cfg1.N) : (dat1 V c).after 5 t = iblk1 V c 5 t := by dsimp only [dat1]
/-- What a point of region 1 leaves in window 6. -/
theorem after1_6 (c : Dev nD) (t : Fin cfg1.N) : (dat1 V c).after 6 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What a point of region 1 finds in window 1: the fetched block. -/
theorem before1_1 (c : Dev nD) (t : Fin cfg1.N) (d) : (dat1 V c).before 1 t d = iblk1 V c 1 t :=
  before1_1_of V (dat1 V c) (A_eq1 V c 1) (after1_1 V c) t d
/-- What a point of region 1 finds in window 2: the fetched block. -/
theorem before1_2 (c : Dev nD) (t : Fin cfg1.N) (d) : (dat1 V c).before 2 t d = iblk1 V c 2 t :=
  before1_2_of V (dat1 V c) (A_eq1 V c 2) (after1_2 V c) t d
/-- What a point of region 1 finds in window 3: the fetched block. -/
theorem before1_3 (c : Dev nD) (t : Fin cfg1.N) (d) : (dat1 V c).before 3 t d = iblk1 V c 3 t :=
  before1_3_of V (dat1 V c) (A_eq1 V c 3) (after1_3 V c) t d
/-- What a point of region 1 finds in window 4: the fetched block. -/
theorem before1_4 (c : Dev nD) (t : Fin cfg1.N) (d) : (dat1 V c).before 4 t d = iblk1 V c 4 t :=
  before1_4_of V (dat1 V c) (A_eq1 V c 4) (after1_4 V c) t d
/-- What a point of region 1 finds in window 5: the fetched block. -/
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A_6
  iintro ⟨⟨⟨HR0, HR1, HR2, HR3, HR4, HR5, HR6, HR7, HR8, HR9, HR10, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%fT0, HS0⟩, ⟨%fT1, HS1⟩⟩
  isplitl [HR0 HR1 HR2 HR3 HR4 HR5 HR6 HR7 HR8 HR9 HR10 HS0 HS1 Hg]
  · isplitl [HR0 HR1 HR2 HR3 HR4 HR5 HR6 HR7 HR8 HR9 HR10 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_A_6 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_v20, main_v21, main_cst_4, main_v22, main_v23, main_v24, main_v25, main_cst_5, main_v26, main_v27, main_v28, main_v29, main_v30, main_v31, main_v32, main_cst_6, main_v33, main_v34, main_cst_7, main_v35, main_v36, main_cst_8, main_v37, main_v38, main_v39, main_v40, main_v41, main_v42, main_v43, main_v44, main_v45, main_v46, main_v47, main_v48, main_v49, main_v50, main_v51, main_v52, main_cst_9, main_v53, main_c_10]
/-- The buffers a stretch of host operations writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v54]
/-- The buffers a stretch of host operations writes. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v55, main_v56, main_v57, main_v58, main_v59, main_v60, main_v61]
/-- The buffers a stretch of host operations writes. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v64, main_v65]
/-- The buffers a stretch of host operations writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at boundary 0. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The arguments are as launched at boundary 2. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The arguments are as launched at boundary 3. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
/-- A window's array at boundary 4 is what the region's write-backs leave. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- A buffer that is no window's array passes boundary 4 unchanged. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at boundary 4. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
/-- Buffers that are no window's array of region 0 keep their contents over it. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
/-- A window's array at boundary 5 is what the region's write-backs leave. -/
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- A buffer that is no window's array passes boundary 5 unchanged. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at boundary 5. -/
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
/-- Buffers that are no window's array of region 1 keep their contents over it. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`, the last stretch: the result's layout. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
/-- Every argument ends as launched. -/
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
/-- No loop variants are used. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the last host stretch is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The program runs to the end: every buffer of the core that no region scopes holds what the fold through the program
    leaves in it, and every semaphore is back at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      refine (show iprop(StableHlo.held (c : Thread nD τ) (Pipeline.ucRefs τ sig) (W6 m ρ c) ∗ R c) ⊢ iprop(Tₙ m ρ c ∗ ∃ W, owes (c : Thread nD τ) (0 : CellTallies nD τ sig Unit) W) from ?_)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide)),
       (h.1 c _ (mem_uc main_arg6 (by decide))).trans (W6_args m ρ c main_arg6 (by decide))⟩, h.2⟩) (ends m ρ)

/-- What the second region leaves in its output array: its write-backs. -/
theorem W5_result (c : Dev nD) : W5 m ρ c (Proc.devRef .tc main_v63) = (dat1 (V4 m ρ) c).arrAt 6 cfg1.N := W5_arr m ρ c 6

end Cert.KernelIdeal.Run

end
-- ==== Proof.Run.Side.lean ====
/- The side conditions of the precondition's operations. -/
module

public import proofs.«01_k».proof.Pre_no_tie_in_top_16
public import Idealize.ShloMosaic.Lib.Decide

@[expose] public section

namespace Cert.Pre_no_tie_in_top_16.Side

open Cert.Pre_no_tie_in_top_16 Idealize.ShloMosaic

/-- Every shape relation the precondition's operations state holds, by evaluation. -/
instance facts : Cert.Pre_no_tie_in_top_16.Facts := by
  constructor <;> decide +kernel

end Cert.Pre_no_tie_in_top_16.Side
-- ==== Proof.Value.Head.lean ====
/- The value one trip of the head loop stores, as a function of the vectors it loads. -/
module

public import proofs.«01_k».proof.Proof.Gen.KernelIdeal.Skeleton

@[expose] public section

set_option maxRecDepth 16384

noncomputable section

namespace Cert.KernelIdeal.Head

open Cert.KernelIdeal Cert.KernelIdeal.Gen
open Idealize.ShloMosaic

variable {F : FTy → Type} [FloatOps F] [Named F]

/-- The gate of a step back in time: the logarithm of the clipped scores. -/
def gateV (s : Vec F S1x512 .f32) : FVec F S512 .f32 :=
  log (addf (minimumf (broadcast S512 (Scalar.ofBits .f32 0x3F800000#32))
      (maximumf (broadcast S512 (Scalar.ofBits .f32 0x00000000#32)) (shapeCast S512 s shapeCasts_S1x512_S512)))
    (broadcast S512 (Scalar.ofBits .f32 0x358637BD#32)))

/-- The keys of a step back in time with its encoding added. -/
def keyV (k : Vec F S1x1x32x512 .f32) (p : Vec F S1x1x32 .f32) : FVec F S32x512 .f32 :=
  addf (shapeCast S32x512 k shapeCasts_S1x1x32x512_S32x512)
    (broadcastTo S32x512 (shapeCast S32x1 (shapeCast S32 p shapeCasts_S1x1x32_S32) shapeCasts_S32_S32x1) broadcasts_S32x1_S32x512)

/-- The logits against the keys of one step back in time, off the mask the mask constant. -/
def chunkV (b : F .f32) (e arg0 : BitVec 32) (v3 : IVec S512x512 1) (q : FVec F S32x512 .f32) (k : Vec F S1x1x32x512 .f32)
    (p : Vec F S1x1x32 .f32) (s : Vec F S1x512 .f32) : FVec F S512x512 .f32 :=
  select (andi v3 (broadcast S512x512 (Scalar.cmpi .sge arg0 e)))
    (divf (addf (addf (mulf (matmul dot_S32x512_S32x512_S512x512_0_0_1_1_n_n none q (keyV k p) (constant S512x512 .f32 0x00000000#32))
          (broadcast S512x512 (Scalar.ofBits .f32 0x3E3504F3#32))) (broadcast S512x512 b))
        (broadcastTo S512x512 (shapeCast S1x512 (gateV s) shapeCasts_S512_S1x512) broadcasts_S1x512_S512x512))
      (broadcast S512x512 (Scalar.ofBits .f32 0x3F800000#32)))
    (broadcast S512x512 (Named.named κ "mask" 0xCE6E6B28#32))

/-- The bias of each step back in time. -/
def biasV (e : Fin 5) : F .f32 :=
  ![Scalar.ofBits .f32 0x80000000#32, Named.named κ "bias1" 0xBF317218#32, Named.named κ "bias2" 0xBF8C9F54#32,
    Named.named κ "bias3" 0xBFB17218#32, Named.named κ "bias4" 0xBFCE0210#32] e

/-- The word of a step back in time. -/
abbrev stepW (e : Fin 5) : BitVec 32 := BitVec.ofNat 32 e.val

/-- Five chunks side by side. -/
def joinV (C : Fin 5 → FVec F S512x512 .f32) : FVec F S512x2560 .f32 := fun y =>
  C ⟨(y 1).val / 512, by have := (y 1).isLt; exact Nat.div_lt_of_lt_mul (by simpa using this)⟩
    (fun a => match a with
      | ⟨0, _⟩ => (y 0)
      | ⟨1, _⟩ => ⟨(y 1).val % 512, Nat.mod_lt _ (by decide)⟩)

/-- One peel of every row. -/
def peelV (a : FVec F S512x2560 .f32) : FVec F S512x2560 .f32 := k1_pay15 a a a

/-- The weights of a chunk from the threshold and the maximum. -/
def expV (e arg0 : BitVec 32) (v3 : IVec S512x512 1) (T m : FVec F S512x1 .f32) (l : FVec F S512x512 .f32) : FVec F S512x512 .f32 :=
  select (andi (cmpf .oge l (broadcastTo S512x512 T broadcasts_S512x1_S512x512)) (andi v3 (broadcast S512x512 (Scalar.cmpi .sge arg0 e))))
    (exp (subf l (broadcastTo S512x512 m broadcasts_S512x1_S512x512)))
    (broadcast S512x512 (Scalar.ofBits .f32 0x00000000#32))

/-- One more chunk's weights in the denominator. -/
def denomV (d : FVec F S512x1 .f32) (w : FVec F S512x512 .f32) : FVec F S512x1 .f32 :=
  addf d (shapeCast S512x1 (multiReduction .add [1] S512 w 0x00000000#32 reduces_S512x512_S512 (.inl rfl) rfl) shapeCasts_S512_S512x1)

/-- One more chunk's weighted values in the numerator. -/
def numV (n : FVec F S512x32 .f32) (w : FVec F S512x512 .f32) (v : Vec F S1x1x32x512 .f32) : FVec F S512x32 .f32 :=
  addf n (matmul dot_S512x512_S32x512_S512x32_1_1_0_0_n_n none w (shapeCast S32x512 v shapeCasts_S1x1x32x512_S32x512) (constant S512x32 .f32 0x00000000#32))

/-- The quotient from the weights and the values. -/
def outV (w : Fin 5 → FVec F S512x512 .f32) (v : Fin 5 → Vec F S1x1x32x512 .f32) : FVec F S1x1x512x32 .f32 :=
  shapeCast S1x1x512x32
    (divf (numV (numV (numV (numV (numV (broadcast S512x32 (Scalar.ofBits .f32 0x00000000#32)) (w 0) (v 0)) (w 1) (v 1)) (w 2) (v 2)) (w 3) (v 3)) (w 4) (v 4))
      (broadcastTo S512x32
        (maximumf (denomV (denomV (denomV (denomV (denomV (broadcast S512x1 (Scalar.ofBits .f32 0x00000000#32)) (w 0)) (w 1)) (w 2)) (w 3)) (w 4))
          (broadcast S512x1 (Scalar.ofBits .f32 0x2B8CBCCC#32))) broadcasts_S512x1_S512x32)) shapeCasts_S512x32_S1x1x512x32

/-- The weights from the chunks of logits. -/
def weightV (arg0 : BitVec 32) (v3 : IVec S512x512 1) (C : Fin 5 → FVec F S512x512 .f32) (e : Fin 5) : FVec F S512x512 .f32 :=
  expV (stepW e) arg0 v3 (k1_pay16 (peelV^[15] (joinV C))) (k1_pay17 (joinV C)) (C e)

/-- The chunks of logits from the loaded vectors. -/
def logitV (arg0 : BitVec 32) (v3 : IVec S512x512 1) (q : Vec F S1x1x32x512 .f32) (k : Fin 5 → Vec F S1x1x32x512 .f32)
    (p : Fin 5 → Vec F S1x1x32 .f32) (s : Fin 5 → Vec F S1x512 .f32) (e : Fin 5) : FVec F S512x512 .f32 :=
  chunkV (biasV e) (stepW e) arg0 v3 (k1_pay3 q) (k e) (p e) (s e)

/-- The value a trip stores. -/
def headV (arg0 : BitVec 32) (v3 : IVec S512x512 1) (q : Vec F S1x1x32x512 .f32) (k : Fin 5 → Vec F S1x1x32x512 .f32)
    (p : Fin 5 → Vec F S1x1x32 .f32) (s : Fin 5 → Vec F S1x512 .f32) (v : Fin 5 → Vec F S1x1x32x512 .f32) : FVec F S1x1x512x32 .f32 :=
  outV (weightV arg0 v3 (logitV arg0 v3 q k p s)) v

end Cert.KernelIdeal.Head

end
-- ==== Proof.Value.Trip.lean ====
/- What one trip of the head loop stores: the head's value of the vectors it loads. -/
module

public import proofs.«01_k».proof.Proof.Run.KernelIdealLoop
public import proofs.«01_k».proof.Proof.Value.Head
public import Idealize.ShloMosaic.Lib.Pipeline.Value
public import Idealize.ShloMosaic.Lib.Pipeline.ReadBack
public import Idealize.ShloMosaic.Lib.VecWindow

@[expose] public section

set_option maxRecDepth 16384

noncomputable section

namespace Cert.KernelIdeal.Run

open Cert.KernelIdeal Cert.KernelIdeal.Gen Cert.KernelIdeal.Head
open Idealize.ShloMosaic Idealize.ShloMosaic.TcCoe Idealize.ShloMosaic.Tactic

variable {F : FTy → Type} [FloatOps F] [Named F]

/-- The queries a trip loads. -/
abbrev ldQ (arg1 : Memref sig .tc .vmem S8x1x32x512 .f32) (X1 : BufTy.Contents (Elt F) arg1.view.ty) (k : Fin k1_t1_loop.trips) : Vec F S1x1x32x512 .f32 :=
  View.readAt (Elt F) arg1.view (Rect.unit (s := S8x1x32x512) (k1_off1 k) S1x1x32x512.size (k1_off1_inb k)).toLoadRect X1

/-- The keys (or values) a trip loads for each step back in time. -/
abbrev ldK (i : grid1.Coords) (arg2 : Memref sig .tc .vmem S8x8x32x512 .f32) (X2 : BufTy.Contents (Elt F) arg2.view.ty) (k : Fin k1_t1_loop.trips) (e : Fin 5) : Vec F S1x1x32x512 .f32 :=
  View.readAt (Elt F) arg2.view (Rect.unit (s := S8x8x32x512) (k1_off2 i k (stepW e)) S1x1x32x512.size (k1_off2_inb i k e)).toLoadRect X2

/-- The scores a trip loads for each step back in time. -/
abbrev ldS (i : grid1.Coords) (arg5 : Memref sig .tc .vmem S8x512 .f32) (X5 : BufTy.Contents (Elt F) arg5.view.ty) (e : Fin 5) : Vec F S1x512 .f32 :=
  View.readAt (Elt F) arg5.view (Rect.unit (s := S8x512) (k1_off4 i (stepW e)) S1x512.size (k1_off4_inb i e)).toLoadRect X5

/-- The encodings a trip loads for each step back in time. -/
abbrev ldP (arg6 : Memref sig .tc .vmem S8x8x32 .f32) (X6 : BufTy.Contents (Elt F) arg6.view.ty) (k : Fin k1_t1_loop.trips) (e : Fin 5) : Vec F S1x1x32 .f32 :=
  match e with
  | 0 => View.readAt (Elt F) arg6.view (Rect.unit (s := S8x8x32) (k1_off3 k) S1x1x32.size (k1_off3_inb k)).toLoadRect X6
  | 1 => View.readAt (Elt F) arg6.view (Rect.unit (s := S8x8x32) (k1_off5 k) S1x1x32.size (k1_off5_inb k)).toLoadRect X6
  | 2 => View.readAt (Elt F) arg6.view (Rect.unit (s := S8x8x32) (k1_off6 k) S1x1x32.size (k1_off6_inb k)).toLoadRect X6
  | 3 => View.readAt (Elt F) arg6.view (Rect.unit (s := S8x8x32) (k1_off7 k) S1x1x32.size (k1_off7_inb k)).toLoadRect X6
  | 4 => View.readAt (Elt F) arg6.view (Rect.unit (s := S8x8x32) (k1_off8 k) S1x1x32.size (k1_off8_inb k)).toLoadRect X6

/-- The chunks of logits of a trip. -/
abbrev tripC (i : grid1.Coords) (arg1 : Memref sig .tc .vmem S8x1x32x512 .f32) (arg2 : Memref sig .tc .vmem S8x8x32x512 .f32) (arg5 : Memref sig .tc .vmem S8x512 .f32) (arg6 : Memref sig .tc .vmem S8x8x32 .f32) (arg0 : BitVec 32) (v0 : Vec F S512x512 .f32)
    (X1 : BufTy.Contents (Elt F) arg1.view.ty) (X2 : BufTy.Contents (Elt F) arg2.view.ty) (X5 : BufTy.Contents (Elt F) arg5.view.ty) (X6 : BufTy.Contents (Elt F) arg6.view.ty) (k : Fin k1_t1_loop.trips) : Fin 5 → FVec F S512x512 .f32 :=
  logitV arg0 (k1_pay1 v0) (ldQ arg1 X1 k) (ldK i arg2 X2 k) (ldP arg6 X6 k) (ldS i arg5 X5)

/-- A chunk stored at its columns. -/
abbrev chunkPiece (C : Fin 5 → FVec F S512x512 .f32) (e : Fin 5) (off : Fin 2 → Nat) (inb : ∀ a, off a + S512x512.size a ≤ S512x2560.size a) : View.Piece (Elt F) S512x2560 .f32 :=
  ⟨Rect.unit (s := S512x2560) off S512x512.size inb, C e⟩

/-- The five chunks as they lie in the scratch buffer, last first. -/
abbrev chunkList (C : Fin 5 → FVec F S512x512 .f32) : List (View.Piece (Elt F) S512x2560 .f32) :=
  [chunkPiece C 4 ![0, 2048] inb_S512x2560_S512x512_0_2048, chunkPiece C 3 ![0, 1536] inb_S512x2560_S512x512_0_1536,
    chunkPiece C 2 ![0, 1024] inb_S512x2560_S512x512_0_1024, chunkPiece C 1 ![0, 512] inb_S512x2560_S512x512_0_512,
    chunkPiece C 0 ![0, 0] inb_S512x2560_S512x512_0_0]

/-- The stored chunks are the chunks of logits. -/
theorem H8_eq (i : grid1.Coords) (arg1 : Memref sig .tc .vmem S8x1x32x512 .f32) (arg2 : Memref sig .tc .vmem S8x8x32x512 .f32) (arg5 : Memref sig .tc .vmem S8x512 .f32) (arg6 : Memref sig .tc .vmem S8x8x32 .f32) (arg0 : BitVec 32) (v0 : Vec F S512x512 .f32)
    (X1 : BufTy.Contents (Elt F) arg1.view.ty) (X2 : BufTy.Contents (Elt F) arg2.view.ty) (X5 : BufTy.Contents (Elt F) arg5.view.ty) (X6 : BufTy.Contents (Elt F) arg6.view.ty) (k : Fin k1_t1_loop.trips) :
    headTrip.sl.H8_5 i arg1 arg2 arg5 arg6 arg0 v0 X1 X2 X5 X6 k = chunkList (tripC i arg1 arg2 arg5 arg6 arg0 v0 X1 X2 X5 X6 k) := by
  unfold headTrip.sl.H8_5
  unfold k1_pay13 k1_pay11 k1_pay9 k1_pay7 k1_pay5
  simp only [shapeCast_self]
  rfl

/-- A chunk is the joined row at its columns. -/
theorem joinV_emb (C : Fin 5 → FVec F S512x512 .f32) (e : Fin 5) (off : Fin 2 → Nat) (inb : ∀ a, off a + S512x512.size a ≤ S512x2560.size a)
    (h0 : off 0 = 0) (h1 : off 1 = 512 * e.val) (x : S512x512.Idx) :
    C e x = joinV C ((Rect.unit (s := S512x2560) off S512x512.size inb).emb x) := by
  have hx : (x 1).val < 512 := (x 1).isLt
  have e1 : (((Rect.unit (s := S512x2560) off S512x512.size inb).emb x) 1).val = 512 * e.val + (x 1).val := by
    rw [← h1, Rect.emb_apply]; show off 1 + 1 * (x 1).val = _; rw [Nat.one_mul]
  have e0 : (((Rect.unit (s := S512x2560) off S512x512.size inb).emb x) 0).val = (x 0).val := by
    rw [Rect.emb_apply]; show off 0 + 1 * (x 0).val = _; rw [h0, Nat.one_mul, Nat.zero_add]
  unfold joinV
  congr 1
  · apply Fin.ext; show e.val = _ / 512; rw [e1]; omega
  · funext a
    match a with
    | ⟨0, _⟩ => exact Fin.ext e0.symm
    | ⟨1, _⟩ => apply Fin.ext; show (x 1).val = _ % 512; rw [e1]; omega

/-- The chunks make up the joined rows. -/
theorem canon_chunks (C : Fin 5 → FVec F S512x512 .f32) : View.canon (chunkList C) = joinV C := by
  funext y
  have hpiece : ∀ (e : Fin 5) (off : Fin 2 → Nat) (inb : ∀ a, off a + S512x512.size a ≤ S512x2560.size a), off 0 = 0 → off 1 = 512 * e.val → (y 1).val / 512 = e.val →
      y ∈ (chunkPiece C e off inb).1.set := by
    intro e off inb h0 h1 he
    rw [Rect.mem_set_unit]
    intro a
    match a with
    | ⟨0, _⟩ => exact ⟨by show off 0 ≤ _; omega, by show _ < off 0 + 512; rw [h0]; simpa using (y 0).isLt⟩
    | ⟨1, _⟩ => exact ⟨by show off 1 ≤ (y 1).val; omega, by show (y 1).val < off 1 + 512; omega⟩
  refine View.canon_apply_of_pieces (Val := Elt F) (S := S512x2560) (e := .f32) (joinV C) _ ?_ y ?_
  · intro p hp x
    simp only [chunkList, List.mem_cons, List.not_mem_nil, or_false] at hp
    rcases hp with rfl | rfl | rfl | rfl | rfl
    · exact joinV_emb C 4 _ inb_S512x2560_S512x512_0_2048 rfl rfl x
    · exact joinV_emb C 3 _ inb_S512x2560_S512x512_0_1536 rfl rfl x
    · exact joinV_emb C 2 _ inb_S512x2560_S512x512_0_1024 rfl rfl x
    · exact joinV_emb C 1 _ inb_S512x2560_S512x512_0_512 rfl rfl x
    · exact joinV_emb C 0 _ inb_S512x2560_S512x512_0_0 rfl rfl x
  · have hy : (y 1).val / 512 < 5 := Nat.div_lt_of_lt_mul (by simpa using (y 1).isLt)
    generalize hd : (y 1).val / 512 = d at hy
    interval_cases d
    · exact ⟨chunkPiece C 0 _ inb_S512x2560_S512x512_0_0, by simp [chunkList], hpiece 0 _ _ rfl rfl hd⟩
    · exact ⟨chunkPiece C 1 _ inb_S512x2560_S512x512_0_512, by simp [chunkList], hpiece 1 _ _ rfl rfl hd⟩
    · exact ⟨chunkPiece C 2 _ inb_S512x2560_S512x512_0_1024, by simp [chunkList], hpiece 2 _ _ rfl rfl hd⟩
    · exact ⟨chunkPiece C 3 _ inb_S512x2560_S512x512_0_1536, by simp [chunkList], hpiece 3 _ _ rfl rfl hd⟩
    · exact ⟨chunkPiece C 4 _ inb_S512x2560_S512x512_0_2048, by simp [chunkList], hpiece 4 _ _ rfl rfl hd⟩

/-- The whole scratch buffer read back is the joined rows. -/
theorem readCov_whole (arg8 : Memref sig .tc .vmem S512x2560 .f32) (C : Fin 5 → FVec F S512x512 .f32) :
    arg8.view.readCov (chunkList C) (Rect.unit (s := S512x2560) ![0, 0] S512x2560.size inb_S512x2560_S512x2560_0_0).toLoadRect = joinV C := by
  rw [View.readCov_eq_canon', canon_chunks]
  funext x
  refine congrArg (joinV C) (funext fun a => Fin.ext ?_)
  show ![0, 0] a + 1 * (x a).val = (x a).val
  fin_cases a <;> simp

/-- A chunk read back. -/
theorem readCov_chunk (arg8 : Memref sig .tc .vmem S512x2560 .f32) (C : Fin 5 → FVec F S512x512 .f32) (e : Fin 5) (off : Fin 2 → Nat) (inb : ∀ a, off a + S512x512.size a ≤ S512x2560.size a)
    (h0 : off 0 = 0) (h1 : off 1 = 512 * e.val) :
    arg8.view.readCov (chunkList C) (Rect.unit (s := S512x2560) off S512x512.size inb).toLoadRect = C e := by
  rw [View.readCov_eq_canon', canon_chunks]
  funext x
  exact (joinV_emb C e off inb h0 h1 x).symm

/-- One peel's trip stores the peeled contents. -/
theorem peelTrip_eq (𝒱 : Variants) (c : Dev nD) (bd : Option 𝒱.V) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v3 : IVec S512x512 1) (arg10 : BitVec 32) (v204 : FVec F S512x512 .f32) (k : Fin k1_t2_loop.trips) (f : BufTy.Contents (Elt F) arg9.view.ty) :
    tripL_k1_t2 (F := F) 𝒱 c bd i arg1 harg1 arg2 harg2 arg3 harg3 arg4 harg4 arg5 harg5 arg6 harg6 arg7 harg7 arg8 harg8 arg9 harg9 arg0 v3 arg10 v204 k f
      = [⟨Rect.unit (s := S512x2560) ![0, 0] S512x2560.size inb_S512x2560_S512x2560_0_0,
          peelV (View.readAt (Elt F) arg9.view (Rect.unit (s := S512x2560) ![0, 0] S512x2560.size inb_S512x2560_S512x2560_0_0).toLoadRect f)⟩] := by
  unfold tripL_k1_t2 trip_k1_t2
  rfl

/-- The contents after `n` peels, read whole. -/
theorem peels_eq (𝒱 : Variants) (c : Dev nD) (bd : Option 𝒱.V) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v3 : IVec S512x512 1) (arg10 : BitVec 32) (v204 : FVec F S512x512 .f32) (G : BufTy.Contents (Elt F) arg9.view.ty) (n : ℕ) (hn : n ≤ k1_t2_loop.trips) :
    View.readAt (Elt F) arg9.view (Rect.unit (s := S512x2560) ![0, 0] S512x2560.size inb_S512x2560_S512x2560_0_0).toLoadRect
        (arg9.view.writes (Elt F) G (pb_k1_t2 (F := F) 𝒱 c bd i arg1 harg1 arg2 harg2 arg3 harg3 arg4 harg4 arg5 harg5 arg6 harg6 arg7 harg7 arg8 harg8 arg9 harg9 arg0 v3 arg10 v204 G n))
      = peelV^[n] (View.readAt (Elt F) arg9.view (Rect.unit (s := S512x2560) ![0, 0] S512x2560.size inb_S512x2560_S512x2560_0_0).toLoadRect G) := by
  induction n with
  | zero => rfl
  | succ n ih =>
    have h := pb_k1_t2_succ (F := F) 𝒱 c bd i arg1 harg1 arg2 harg2 arg3 harg3 arg4 harg4 arg5 harg5 arg6 harg6 arg7 harg7 arg8 harg8 arg9 harg9 arg0 v3 arg10 v204 G ⟨n, hn⟩
    simp only at h
    rw [h, peelTrip_eq, Function.iterate_succ_apply', ← ih (Nat.le_of_succ_le hn)]
    exact View.readAt_writes_full _ _ _ _ _ _

/-- The peel loop runs fifteen times. -/
theorem peel_trips : Scf.trips k1_t2_loop.lb k1_t2_loop.ub k1_t2_loop.st = 15 := by decide +kernel

/-- What the trip reads as its peeled logits. -/
theorem v213_eq (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32) (X1 : BufTy.Contents (Elt F) arg1.view.ty) (X2 : BufTy.Contents (Elt F) arg2.view.ty) (X5 : BufTy.Contents (Elt F) arg5.view.ty) (X6 : BufTy.Contents (Elt F) arg6.view.ty) (k : Fin k1_t1_loop.trips) :
    headTrip.sl.v213 (F := F) c i arg1 harg1 arg2 harg2 arg3 harg3 arg4 harg4 arg5 harg5 arg6 harg6 arg7 harg7 arg8 harg8 arg9 harg9 arg0 v0 X1 X2 X5 X6 k = peelV^[15] (joinV (tripC i arg1 arg2 arg5 arg6 arg0 v0 X1 X2 X5 X6 k)) := by
  unfold headTrip.sl.v213
  have hH9 : headTrip.sl.H9_1 i arg1 arg2 arg5 arg6 arg8 arg0 v0 X1 X2 X5 X6 k
      = [⟨Rect.unit (s := S512x2560) ![0, 0] S512x2560.size inb_S512x2560_S512x2560_0_0, joinV (tripC i arg1 arg2 arg5 arg6 arg0 v0 X1 X2 X5 X6 k)⟩] := by
    unfold headTrip.sl.H9_1 headTrip.sl.v208 k1_pay14
    rw [H8_eq, readCov_whole]
    simp only [shapeCast_self]
  rw [hH9]
  have h := peels_eq (F := F) Variants.none c none i arg1 harg1 arg2 harg2 arg3 harg3 arg4 harg4 arg5 harg5 arg6 harg6 arg7 harg7 arg8 harg8 arg9 harg9 arg0 (k1_pay1 v0) (headTrip.sl.arg10 k) (headTrip.sl.r_5 i arg1 arg2 arg5 arg6 arg0 v0 X1 X2 X5 X6 k)
    (arg9.view.writes (Elt F) arg9.view.junk [⟨Rect.unit (s := S512x2560) ![0, 0] S512x2560.size inb_S512x2560_S512x2560_0_0, joinV (tripC i arg1 arg2 arg5 arg6 arg0 v0 X1 X2 X5 X6 k)⟩])
    15 (by decide +kernel)
  rw [View.readAt_writes_full, ← View.writes_append] at h
  rw [peel_trips]
  exact h

/-- One trip of the head loop stores the head's value of what it loads. -/
theorem headTrip_eq (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : Fin k1_t1_loop.trips) :
    (headTrip (F := F) c i arg1 harg1 arg2 harg2 arg3 harg3 arg4 harg4 arg5 harg5 arg6 harg6 arg7 harg7 arg8 harg8 arg9 harg9 arg0 v0 X1 X2 X3 X5 X6 k).1
      = [⟨Rect.unit (s := S8x1x512x32) (k1_off9 k) S1x1x512x32.size (k1_off9_inb k),
          headV arg0 (k1_pay1 v0) (ldQ arg1 X1 k) (ldK i arg2 X2 k) (ldP arg6 X6 k) (ldS i arg5 X5) (ldK i arg3 X3 k)⟩] := by
  have h216 : headTrip.sl.v216 i arg1 arg2 arg5 arg6 arg8 arg0 v0 X1 X2 X5 X6 k = joinV (tripC i arg1 arg2 arg5 arg6 arg0 v0 X1 X2 X5 X6 k) := by
    unfold headTrip.sl.v216; rw [H8_eq, readCov_whole]
  have h223 : headTrip.sl.v223 i arg1 arg2 arg5 arg6 arg8 arg0 v0 X1 X2 X5 X6 k = tripC i arg1 arg2 arg5 arg6 arg0 v0 X1 X2 X5 X6 k 0 := by
    unfold headTrip.sl.v223; rw [H8_eq]; exact readCov_chunk _ _ 0 _ _ rfl rfl
  have h246 : headTrip.sl.v246 i arg1 arg2 arg5 arg6 arg8 arg0 v0 X1 X2 X5 X6 k = tripC i arg1 arg2 arg5 arg6 arg0 v0 X1 X2 X5 X6 k 1 := by
    unfold headTrip.sl.v246; rw [H8_eq]; exact readCov_chunk _ _ 1 _ _ rfl rfl
  have h269 : headTrip.sl.v269 i arg1 arg2 arg5 arg6 arg8 arg0 v0 X1 X2 X5 X6 k = tripC i arg1 arg2 arg5 arg6 arg0 v0 X1 X2 X5 X6 k 2 := by
    unfold headTrip.sl.v269; rw [H8_eq]; exact readCov_chunk _ _ 2 _ _ rfl rfl
  have h292 : headTrip.sl.v292 i arg1 arg2 arg5 arg6 arg8 arg0 v0 X1 X2 X5 X6 k = tripC i arg1 arg2 arg5 arg6 arg0 v0 X1 X2 X5 X6 k 3 := by
    unfold headTrip.sl.v292; rw [H8_eq]; exact readCov_chunk _ _ 3 _ _ rfl rfl
  have h315 : headTrip.sl.v315 i arg1 arg2 arg5 arg6 arg8 arg0 v0 X1 X2 X5 X6 k = tripC i arg1 arg2 arg5 arg6 arg0 v0 X1 X2 X5 X6 k 4 := by
    unfold headTrip.sl.v315; rw [H8_eq]; exact readCov_chunk _ _ 4 _ _ rfl rfl
  unfold headTrip
  dsimp only
  unfold headTrip.sl.r_14 headTrip.sl.r_15 headTrip.sl.r_16 headTrip.sl.r_17 headTrip.sl.r_10 headTrip.sl.r_11 headTrip.sl.r_12 headTrip.sl.r_13
    headTrip.sl.r_8 headTrip.sl.r_9 headTrip.sl.r_6 headTrip.sl.r_7
  rw [v213_eq, h216, h223, h246, h269, h292, h315]
  rfl

end Cert.KernelIdeal.Run

end
-- ==== Proof.Value.Row.lean ====
/- One row of the attention: the threshold by peeling the maximum off fifteen times, the same threshold as the sixteenth
   of a sorted row, and the quotient of the weighted sum. -/
module

public import Idealize.ShloMosaic.PureOps.Ideal
public import Idealize.ShloMosaic.PureOps.Ideal.Laws
public import Mathlib.Data.EReal.Operations
public import Mathlib.Data.EReal.Inv

@[expose] public section

noncomputable section

namespace Cert.Row

open Idealize.ShloMosaic

variable {ι : Type} [Fintype ι]

/-- A row with every entry at its maximum put to minus infinity. -/
def peel (L : ι → EReal) : ι → EReal := fun k => if L k = Finset.univ.sup L then ⊥ else L k

/-- The distinct entries of a row above `x`. -/
def above (L : ι → EReal) (x : EReal) : Finset EReal := (Finset.univ.image L).filter (x < ·)

/-- An element of `above L x` is a value of the row that is greater than `x`. -/
theorem mem_above (L : ι → EReal) (x y : EReal) : y ∈ above L x ↔ (∃ k, L k = y) ∧ x < y := by
  simp [above]

/-- Peeling takes the maximum out of the entries above `x`. -/
theorem above_peel (L : ι → EReal) (x : EReal) : above (peel L) x = (above L x).erase (Finset.univ.sup L) := by
  ext y
  rw [Finset.mem_erase, mem_above, mem_above]
  constructor
  · rintro ⟨⟨k, hk⟩, hx⟩
    unfold peel at hk
    split at hk
    · subst hk; exact absurd hx not_lt_bot
    · rename_i h; subst hk; exact ⟨h, ⟨k, rfl⟩, hx⟩
  · rintro ⟨hne, ⟨k, hk⟩, hx⟩
    refine ⟨⟨k, ?_⟩, hx⟩
    unfold peel; rw [if_neg (by rw [hk]; exact hne)]; exact hk

/-- After `p` peels the maximum is at most `x` exactly when at most `p` distinct entries are above `x`. -/
theorem sup_peel_le_iff (p : ℕ) (L : ι → EReal) (x : EReal) :
    Finset.univ.sup (peel^[p] L) ≤ x ↔ (above L x).card ≤ p := by
  induction p generalizing L with
  | zero =>
    rw [Function.iterate_zero, id, Nat.le_zero, Finset.card_eq_zero, Finset.sup_le_iff]
    constructor
    · intro h
      refine Finset.eq_empty_of_forall_notMem fun y hy => ?_
      obtain ⟨⟨k, rfl⟩, hx⟩ := (mem_above _ _ _).1 hy
      exact absurd (h k (Finset.mem_univ k)) (not_le.2 hx)
    · intro h k _
      by_contra hx
      have : L k ∈ above L x := (mem_above _ _ _).2 ⟨⟨k, rfl⟩, not_le.1 hx⟩
      rw [h] at this; exact absurd this (Finset.notMem_empty _)
  | succ p ih =>
    rw [Function.iterate_succ_apply, ih, above_peel]
    rcases (above L x).eq_empty_or_nonempty with h | h
    · simp [h]
    · obtain ⟨y, hy⟩ := h
      obtain ⟨⟨k, rfl⟩, hx⟩ := (mem_above _ _ _).1 hy
      have hm : Finset.univ.sup L ∈ above L x := by
        obtain ⟨k', _, hk'⟩ := Finset.exists_mem_eq_sup Finset.univ ⟨k, Finset.mem_univ k⟩ L
        exact (mem_above _ _ _).2 ⟨⟨k', hk'.symm⟩, lt_of_lt_of_le hx (Finset.le_sup (Finset.mem_univ k))⟩
      rw [Finset.card_erase_of_mem hm]
      omega

/-- The sixteenth of a sorted row whose first sixteen fall strictly, but for minus infinities, is the maximum after
    fifteen peels. -/
theorem sup_peel_eq (L : ι → EReal) (v : Fin 16 → EReal) (hmem : ∀ a, ∃ k, v a = L k) (hanti : ∀ a b, a ≤ b → v b ≤ v a)
    (htop : ∀ k, v 15 < L k → ∃ a : Fin 15, L k = v a.castSucc)
    (hstrict : ∀ a : Fin 15, v a.succ < v a.castSucc ∨ v a.succ = ⊥) :
    Finset.univ.sup (peel^[15] L) = v 15 := by
  apply le_antisymm
  · rw [sup_peel_le_iff]
    have hsub : above L (v 15) ⊆ Finset.univ.image (fun a : Fin 15 => v a.castSucc) := by
      intro y hy
      obtain ⟨⟨k, rfl⟩, hx⟩ := (mem_above _ _ _).1 hy
      obtain ⟨a, ha⟩ := htop k hx
      exact Finset.mem_image.2 ⟨a, Finset.mem_univ _, ha.symm⟩
    exact (Finset.card_le_card hsub).trans (Finset.card_image_le.trans (by simp))
  · by_contra hlt
    rw [not_le] at hlt
    generalize hx : Finset.univ.sup (peel^[15] L) = x at hlt
    have hcard := (sup_peel_le_iff 15 L x).1 hx.le
    have hne : ∀ a, v a ≠ ⊥ := fun a h => by
      have h15 : v 15 ≤ v a := hanti a 15 (Fin.le_last a)
      rw [h, le_bot_iff] at h15
      rw [h15] at hlt; exact absurd hlt not_lt_bot
    have hanti' : StrictAnti v := Fin.strictAnti_iff_succ_lt.2 fun a => (hstrict a).resolve_right (hne _)
    have hsub : Finset.univ.image v ⊆ above L x := by
      intro y hy
      obtain ⟨a, _, rfl⟩ := Finset.mem_image.1 hy
      obtain ⟨k, hk⟩ := hmem a
      exact (mem_above _ _ _).2 ⟨⟨k, hk.symm⟩, lt_of_lt_of_le hlt (hanti a 15 (Fin.le_last a))⟩
    have := Finset.card_le_card hsub
    rw [Finset.card_image_of_injective _ hanti'.injective, Finset.card_univ, Fintype.card_fin] at this
    omega

/-- The maximum over the kept entries, the others put to minus infinity, is the row's maximum: the row is minus infinity
    off the mask and the threshold is no more than the maximum. -/
theorem sup_keep (L : ι → EReal) (M : ι → Prop) [DecidablePred M] (T : EReal) (hM : ∀ k, ¬M k → L k = ⊥)
    (hT : T ≤ Finset.univ.sup L) :
    Finset.univ.sup (fun k => if T ≤ L k ∧ M k then L k else ⊥) = Finset.univ.sup L := by
  apply le_antisymm
  · refine Finset.sup_mono_fun fun k _ => ?_
    split
    · exact le_rfl
    · exact bot_le
  · rcases isEmpty_or_nonempty ι with h | h
    · simp
    obtain ⟨k, hk, hs⟩ := Finset.exists_mem_eq_sup Finset.univ Finset.univ_nonempty L
    by_cases h : M k
    · refine le_trans ?_ (Finset.le_sup hk)
      rw [if_pos ⟨hs ▸ hT, h⟩, hs]
    · rw [hs, hM k h]; exact bot_le

/-- Peeling lowers the row. -/
theorem sup_peel_le (p : ℕ) (L : ι → EReal) : Finset.univ.sup (peel^[p] L) ≤ Finset.univ.sup L := by
  rw [sup_peel_le_iff]
  have : above L (Finset.univ.sup L) = ∅ := Finset.eq_empty_of_forall_notMem fun y hy => by
    obtain ⟨⟨k, rfl⟩, hx⟩ := (mem_above _ _ _).1 hy
    exact absurd (Finset.le_sup (f := L) (Finset.mem_univ k)) (not_le.2 hx)
  rw [this]; simp

/-- An exponential of a difference to something no smaller is a real number that is not negative. -/
theorem exp_sub_real {x m : EReal} (h : x ≤ m) : ∃ r : ℝ, 0 ≤ r ∧ Ideal.exp (x - m) = (r : EReal) := by
  induction x with
  | bot => exact ⟨0, le_rfl, by rw [EReal.bot_sub]; rfl⟩
  | top =>
    rw [top_le_iff] at h; subst h
    exact ⟨0, le_rfl, by rw [sub_eq_add_neg, EReal.neg_top, EReal.add_bot]; rfl⟩
  | coe a =>
    induction m with
    | bot => exact absurd h (not_le.2 (EReal.bot_lt_coe a))
    | top => exact ⟨0, le_rfl, by rw [sub_eq_add_neg, EReal.neg_top, EReal.add_bot]; rfl⟩
    | coe b => exact ⟨Real.exp (a - b), (Real.exp_pos _).le, by rw [← EReal.coe_sub]; rfl⟩

/-- A quotient by a positive real is a product with its inverse. -/
theorem div_pos_coe (x : EReal) {c : ℝ} (hc : 0 < c) : Ideal.div x (c : EReal) = x * ((c⁻¹ : ℝ) : EReal) := by
  unfold Ideal.div
  rw [if_neg (by exact_mod_cast hc.ne'), EReal.coe_inv]

/-- Multiplication by a real that is not negative distributes over a sum. -/
theorem sum_mul_coe (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of reals that are not negative is such a real. -/
theorem sum_real (s : Finset ι) (f : ι → EReal) (hf : ∀ k, ∃ r : ℝ, 0 ≤ r ∧ f k = (r : EReal)) :
    ∃ r : ℝ, 0 ≤ r ∧ ∑ k ∈ s, f k = (r : EReal) := by
  choose r hr h using hf
  refine ⟨∑ k ∈ s, r k, Finset.sum_nonneg fun k _ => hr k, ?_⟩
  simp only [h]
  classical
  induction s using Finset.induction_on with
  | empty => simp
  | insert a s ha ih => rw [Finset.sum_insert ha, Finset.sum_insert ha, ih, EReal.coe_add]

/-- A weighted sum over the greater of the weights' sum and a positive real is the sum of the quotients' products. -/
theorem quotient_sum (w v : ι → EReal) (hw : ∀ k, ∃ r : ℝ, 0 ≤ r ∧ w k = (r : EReal)) {ε : EReal} (hε : ∃ r : ℝ, 0 < r ∧ ε = (r : EReal)) :
    Ideal.div (∑ k, w k * v k) (max (∑ k, w k) ε) = ∑ k, Ideal.div (w k) (max (∑ k, w k) ε) * v k := by
  obtain ⟨d, hd, hs⟩ := sum_real Finset.univ w hw
  obtain ⟨r, hr, rfl⟩ := hε
  have hc : max (∑ k, w k) (r : EReal) = ((max d r : ℝ) : EReal) := by
    rw [hs, ← EReal.coe_strictMono.monotone.map_max]
  have hpos : 0 < max d r := lt_max_of_lt_right hr
  rw [hc, div_pos_coe _ hpos, sum_mul_coe _ _ (inv_nonneg.2 hpos.le)]
  refine Finset.sum_congr rfl fun k _ => ?_
  rw [div_pos_coe _ hpos, mul_right_comm]

/-- A fold of the maximum from minus infinity is the supremum. -/
theorem fold_max (f : ι → EReal) : Finset.univ.fold max ⊥ f = Finset.univ.sup f := rfl

end Cert.Row

end
-- ==== Proof.Value.Point.lean ====
/- The head's value read at an index over the extended reals. -/
module

public import proofs.«01_k».proof.Proof.Value.Head
public import proofs.«01_k».proof.Proof.Value.Row
public import Idealize.ShloMosaic.Lib.Pointwise
public import Idealize.ShloMosaic.Lib.Pipeline.Value
public import Idealize.ShloMosaic.PureOps.Ideal.Laws

@[expose] public section

set_option maxRecDepth 16384

noncomputable section

namespace Cert.KernelIdeal.Head

open Cert.KernelIdeal Cert.KernelIdeal.Gen
open Idealize.ShloMosaic

/-- The named mask is −∞. -/
theorem mask_bot : (Named.named κ "mask" 0xCE6E6B28#32 : Ideal .f32) = (⊥ : EReal) :=
  IdealRules.named_const.ideal_named_scalar _ _ _ _ rfl

/-- The word of −∞ is −∞. -/
theorem ofBits_bot : Ideal.ofBits .f32 4286578688#32 = (⊥ : EReal) := by
  simp [Ideal.ofBits, Ideal.ieee]

/-- The conjunction of two one-bit words is one where both are. -/
theorem andi_one (a b : BitVec 1) : IntOp.andi a b = 1#1 ↔ a = 1#1 ∧ b = 1#1 := by
  revert a b; decide

/-- The bit of a proposition is one where it holds. -/
theorem ofBool_one (p : Prop) [Decidable p] : BitVec.ofBool (decide p) = 1#1 ↔ p := by
  by_cases h : p <;> simp [h]

/-- One peel of the rows is one peel of each row. -/
theorem peelV_apply (a : FVec Ideal S512x2560 .f32) (i : Fin 512) :
    (fun n => peelV a (ix2 i n)) = Cert.Row.peel (fun n => a (ix2 i n)) := by
  funext n
  pointwise [peelV, k1_pay15]
  rw [ofBits_bot, mask_bot, Cert.Row.fold_max]
  rfl

/-- Peeling the rows is peeling each row. -/
theorem peelV_iterate (p : ℕ) (a : FVec Ideal S512x2560 .f32) (i : Fin 512) :
    (fun n => (peelV^[p] a) (ix2 i n)) = Cert.Row.peel^[p] (fun n => a (ix2 i n)) := by
  induction p with
  | zero => rfl
  | succ p ih => rw [Function.iterate_succ_apply', Function.iterate_succ_apply', peelV_apply, ih]

/-- The threshold of a row. -/
theorem pay16_apply (a : FVec Ideal S512x2560 .f32) (i : Fin 512) : k1_pay16 a (ix2 i 0) = Finset.univ.sup (fun n => a (ix2 i n)) := by
  pointwise [k1_pay16]
  rw [ofBits_bot, Cert.Row.fold_max]

/-- The maximum of a row. -/
theorem pay17_apply (a : FVec Ideal S512x2560 .f32) (i : Fin 512) : k1_pay17 a (ix2 i 0) = Finset.univ.sup (fun n => a (ix2 i n)) := by
  pointwise [k1_pay17]
  rw [ofBits_bot, Cert.Row.fold_max]

/-- A weight at an index. -/
theorem expV_apply (e arg0 : BitVec 32) (v3 : IVec S512x512 1) (T m : FVec Ideal S512x1 .f32) (l : FVec Ideal S512x512 .f32) (i j : Fin 512) :
    expV e arg0 v3 T m l (ix2 i j) = if T (ix2 i 0) ≤ l (ix2 i j) ∧ IntOp.andi (v3 (ix2 i j)) (Scalar.cmpi .sge arg0 e) = 1#1 then Ideal.exp (l (ix2 i j) - m (ix2 i 0)) else 0 := by
  pointwise [expV]
  unfold Scalar.select
  refine if_congr ?_ rfl rfl
  show IntOp.andi _ _ = 1#1 ↔ _
  rw [andi_one, ofBool_one]

/-- The denominator after one more chunk. -/
theorem denomV_apply (d : FVec Ideal S512x1 .f32) (w : FVec Ideal S512x512 .f32) (i : Fin 512) :
    denomV d w (ix2 i 0) = d (ix2 i 0) + ∑ j : Fin 512, w (ix2 i j) := by
  pointwise [denomV]

/-- The numerator after one more chunk. -/
theorem numV_apply (n : FVec Ideal S512x32 .f32) (w : FVec Ideal S512x512 .f32) (v : Vec Ideal S1x1x32x512 .f32) (i : Fin 512) (d : Fin 32) :
    numV n w v (ix2 i d) = n (ix2 i d) + ∑ j : Fin 512, w (ix2 i j) * v (ix4 0 0 d j) := by
  pointwise [numV]

/-- The logit of a query and a key: the scaled product, the bias and the gate, over the temperature. -/
def logit (b : EReal) (q k p : Fin 32 → EReal) (s : EReal) : EReal :=
  Ideal.div (((∑ x, q x * (k x + p x)) * Ideal.ofBits FTy.f32 1043662067#32 + b) + Ideal.log (min 1 (max 0 s) + Ideal.ofBits FTy.f32 897988541#32)) 1

/-- A logit at an index. -/
theorem chunkV_apply (b : Ideal .f32) (e arg0 : BitVec 32) (v3 : IVec S512x512 1) (q : Vec Ideal S1x1x32x512 .f32) (k : Vec Ideal S1x1x32x512 .f32)
    (p : Vec Ideal S1x1x32 .f32) (s : Vec Ideal S1x512 .f32) (i j : Fin 512) :
    chunkV b e arg0 v3 (k1_pay3 q) k p s (ix2 i j) = if IntOp.andi (v3 (ix2 i j)) (Scalar.cmpi .sge arg0 e) = 1#1 then
      logit b (fun x => q (ix4 0 0 x i)) (fun x => k (ix4 0 0 x j)) (fun x => p (ix3 0 0 x)) (s (ix2 0 j)) else ⊥ := by
  pointwise [chunkV, gateV, keyV, k1_pay3]
  rw [mask_bot]
  rfl

/-- The step back in time and the key of a flat position. -/
abbrev back (n : Fin 2560) : Fin 5 := ⟨n.val / 512, Nat.div_lt_of_lt_mul n.isLt⟩
/-- The key of a flat position. -/
abbrev key (n : Fin 2560) : Fin 512 := ⟨n.val % 512, Nat.mod_lt _ (by decide)⟩

/-- The joined rows at a flat position. -/
theorem joinV_apply (C : Fin 5 → FVec Ideal S512x512 .f32) (i : Fin 512) (n : Fin 2560) : joinV C (ix2 i n) = C (back n) (ix2 i (key n)) := by
  unfold joinV
  refine congrArg (C (back n)) (funext fun a => ?_)
  match a with
  | ⟨0, _⟩ => rfl
  | ⟨1, _⟩ => rfl

/-- A sum over the flat positions is the sum over the steps of the sums over the keys. -/
theorem sum_flat (f : Fin 5 → Fin 512 → EReal) : ∑ n : Fin 2560, f (back n) (key n) = ∑ e : Fin 5, ∑ j : Fin 512, f e j := by
  rw [← Fintype.sum_prod_type' (f := f)]
  refine Fintype.sum_equiv (finProdFinEquiv (m := 5) (n := 512)).symm _ _ fun n => ?_
  rfl

/-- The denominator's floor is a positive number. -/
theorem eps_pos : ∃ r : ℝ, 0 < r ∧ Ideal.ofBits FTy.f32 0x2B8CBCCC#32 = (r : EReal) := by
  simp [Ideal.ofBits, Ideal.ieee]
  exact ⟨9223372 * (2 ^ 63)⁻¹, by positivity, by push_cast; rfl⟩

/-- The output of a row from its logits, its mask and the values. -/
def rowOut (L : Fin 2560 → EReal) (M : Fin 2560 → BitVec 1) (V : Fin 2560 → EReal) : EReal :=
  Ideal.div (∑ n, (if Finset.univ.sup (Cert.Row.peel^[15] L) ≤ L n ∧ M n = 1#1 then Ideal.exp (L n - Finset.univ.sup L) else 0) * V n)
    (max (∑ n, (if Finset.univ.sup (Cert.Row.peel^[15] L) ≤ L n ∧ M n = 1#1 then Ideal.exp (L n - Finset.univ.sup L) else 0)) (Ideal.ofBits FTy.f32 0x2B8CBCCC#32))

/-- The quotient at an index. -/
theorem outV_apply (w : Fin 5 → FVec Ideal S512x512 .f32) (v : Fin 5 → Vec Ideal S1x1x32x512 .f32) (i : Fin 512) (d : Fin 32) :
    outV w v (ix4 0 0 i d) = Ideal.div (∑ n : Fin 2560, w (back n) (ix2 i (key n)) * v (back n) (ix4 0 0 d (key n)))
      (max (∑ n : Fin 2560, w (back n) (ix2 i (key n))) (Ideal.ofBits FTy.f32 0x2B8CBCCC#32)) := by
  rw [sum_flat fun e j => w e (ix2 i j) * v e (ix4 0 0 d j), sum_flat fun e j => w e (ix2 i j)]
  rw [Fin.sum_univ_five, Fin.sum_univ_five]
  pointwise [outV]
  rw [numV_apply, numV_apply, numV_apply, numV_apply, numV_apply, denomV_apply, denomV_apply, denomV_apply, denomV_apply, denomV_apply]
  simp only [broadcast, zero_add]

/-- The mask of a flat position. -/
abbrev maskAt (arg0 : BitVec 32) (v3 : IVec S512x512 1) (i : Fin 512) (n : Fin 2560) : BitVec 1 :=
  IntOp.andi (v3 (ix2 i (key n))) (Scalar.cmpi .sge arg0 (stepW (back n)))

/-- The logit of a flat position. -/
abbrev logitAt (arg0 : BitVec 32) (v3 : IVec S512x512 1) (q : Vec Ideal S1x1x32x512 .f32) (k : Fin 5 → Vec Ideal S1x1x32x512 .f32)
    (p : Fin 5 → Vec Ideal S1x1x32 .f32) (s : Fin 5 → Vec Ideal S1x512 .f32) (i : Fin 512) (n : Fin 2560) : EReal :=
  if maskAt arg0 v3 i n = 1#1 then
    logit (biasV (F := Ideal) (back n)) (fun x => q (ix4 0 0 x i)) (fun x => k (back n) (ix4 0 0 x (key n))) (fun x => p (back n) (ix3 0 0 x)) (s (back n) (ix2 0 (key n))) else ⊥

/-- The head's value at an index. -/
theorem headV_apply (arg0 : BitVec 32) (v3 : IVec S512x512 1) (q : Vec Ideal S1x1x32x512 .f32) (k : Fin 5 → Vec Ideal S1x1x32x512 .f32)
    (p : Fin 5 → Vec Ideal S1x1x32 .f32) (s : Fin 5 → Vec Ideal S1x512 .f32) (v : Fin 5 → Vec Ideal S1x1x32x512 .f32) (i : Fin 512) (d : Fin 32) :
    headV arg0 v3 q k p s v (ix4 0 0 i d)
      = rowOut (logitAt arg0 v3 q k p s i) (maskAt arg0 v3 i) (fun n => v (back n) (ix4 0 0 d (key n))) := by
  have hL : (fun n => joinV (logitV arg0 v3 q k p s) (ix2 i n)) = logitAt arg0 v3 q k p s i := by
    funext n
    rw [joinV_apply]; unfold logitV; rw [chunkV_apply]
  have hC : ∀ n, logitV arg0 v3 q k p s (back n) (ix2 i (key n)) = logitAt arg0 v3 q k p s i n := by
    intro n; exact (joinV_apply _ i n).symm.trans (congrFun hL n)
  unfold headV rowOut
  rw [outV_apply]
  unfold weightV
  simp only [expV_apply, pay16_apply, pay17_apply, peelV_iterate, hL, hC]

end Cert.KernelIdeal.Head

end
-- ==== Proof.Value.Blocks.lean ====
/- What the attention kernel leaves in its output block, read at an index. -/
module

public import proofs.«01_k».proof.Proof.Run.KernelIdeal
public import proofs.«01_k».proof.Proof.Value.Trip
public import proofs.«01_k».proof.Proof.Value.Point
public import Idealize.ShloMosaic.Lib.Pipeline.ValueKit
public import Idealize.ShloMosaic.Lib.WholeRead

@[expose] public section

set_option maxRecDepth 16384

noncomputable section

namespace Cert.KernelIdeal.Run

open Cert.KernelIdeal Cert.KernelIdeal.Gen Cert.KernelIdeal.Head
open Idealize.ShloMosaic Idealize.ShloMosaic.TcCoe Idealize.ShloMosaic.Tactic

/-- A unit rectangle places an index at its offset, the offset known. -/
theorem emb_off {s : Shape} {off size : Fin s.rank → ℕ} {inb} {o : Fin s.rank → ℕ} (h : off = o) (j : (Rect.unit off size inb).shape.Idx) (a : Fin s.rank) :
    ((Rect.unit off size inb).emb j a : ℕ) = o a + j a := by
  subst h; exact ValueKit.rect_emb_unit_val _ _ _ _ _

section Pieces

variable {F : FTy → Type} [FloatOps F] [Named F]

/-- Every piece of the heads is a head's value at the head's rows. -/
theorem heads_piece (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) :
    ∀ n, n ≤ k1_t1_loop.trips → ∀ p ∈ heads (F := F) c i arg1 harg1 arg2 harg2 arg3 harg3 arg4 harg4 arg5 harg5 arg6 harg6 arg7 harg7 arg8 harg8 arg9 harg9 arg0 v0 X1 X2 X3 X5 X6 n, ∃ k : Fin k1_t1_loop.trips,
      p = ⟨Rect.unit (s := S8x1x512x32) (k1_off9 k) S1x1x512x32.size (k1_off9_inb k),
          headV arg0 (k1_pay1 v0) (ldQ arg1 X1 k) (ldK i arg2 X2 k) (ldP arg6 X6 k) (ldS i arg5 X5) (ldK i arg3 X3 k)⟩ := by
  intro n
  induction n with
  | zero => intro _ p hp; exact absurd hp List.not_mem_nil
  | succ n ih =>
    intro hn p hp
    have h := heads_succ (F := F) c i arg1 harg1 arg2 harg2 arg3 harg3 arg4 harg4 arg5 harg5 arg6 harg6 arg7 harg7 arg8 harg8 arg9 harg9 arg0 v0 X1 X2 X3 X5 X6 (k := ⟨n, hn⟩)
    simp only at h
    rw [h, headTrip_eq, List.mem_append, List.mem_singleton] at hp
    rcases hp with hp | hp
    · exact ⟨⟨n, hn⟩, hp⟩
    · exact ih (Nat.le_of_succ_le hn) p hp

/-- The head of an index of the output block. -/
abbrev headOf (y : S8x1x512x32.Idx) : Fin k1_t1_loop.trips := ⟨(y 0).val, by rw [head_trips]; exact (y 0).isLt⟩

/-- The heads' pieces over the output block are each head's value at its row. -/
theorem heads_canon (c : Dev nD) (i : grid1.Coords) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (arg0 : BitVec 32) (v0 : Vec F S512x512 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (y : S8x1x512x32.Idx) :
    View.canon (heads (F := F) c i arg1 harg1 arg2 harg2 arg3 harg3 arg4 harg4 arg5 harg5 arg6 harg6 arg7 harg7 arg8 harg8 arg9 harg9 arg0 v0 X1 X2 X3 X5 X6 k1_t1_loop.trips) y
      = headV arg0 (k1_pay1 v0) (ldQ arg1 X1 (headOf y)) (ldK i arg2 X2 (headOf y)) (ldP arg6 X6 (headOf y)) (ldS i arg5 X5) (ldK i arg3 X3 (headOf y)) (ix4 0 0 (y 2) (y 3)) := by
  refine View.canon_apply_of_pieces (Val := Elt F) (S := S8x1x512x32) (e := .f32)
    (fun y => headV arg0 (k1_pay1 v0) (ldQ arg1 X1 (headOf y)) (ldK i arg2 X2 (headOf y)) (ldP arg6 X6 (headOf y)) (ldS i arg5 X5) (ldK i arg3 X3 (headOf y)) (ix4 0 0 (y 2) (y 3)))
    _ ?_ y (heads_cover (F := F) c i arg1 harg1 arg2 harg2 arg3 harg3 arg4 harg4 arg5 harg5 arg6 harg6 arg7 harg7 arg8 harg8 arg9 harg9 arg0 v0 X1 X2 X3 X5 X6 y)
  intro p hp z
  obtain ⟨k, rfl⟩ := heads_piece (F := F) c i arg1 harg1 arg2 harg2 arg3 harg3 arg4 harg4 arg5 harg5 arg6 harg6 arg7 harg7 arg8 harg8 arg9 harg9 arg0 v0 X1 X2 X3 X5 X6 _ le_rfl p hp
  have hz0 : (z 0).val = 0 := by have := (z 0).isLt; simpa using this
  have e : ∀ a, ((Rect.unit (s := S8x1x512x32) (k1_off9 k) S1x1x512x32.size (k1_off9_inb k)).emb z a).val = ![k.val, 0, 0, 0] a + (z a).val := by
    intro a; exact emb_off (off9_eq k) z a
  generalize (Rect.unit (s := S8x1x512x32) (k1_off9 k) S1x1x512x32.size (k1_off9_inb k)).emb z = y at e ⊢
  have hk : headOf y = k := by
    apply Fin.ext
    refine (e 0).trans ?_
    rw [hz0]; rfl
  have hz : (ix4 0 0 (y 2) (y 3) : S1x1x512x32.Idx) = z := by
    funext a
    match a with
    | ⟨0, _⟩ => exact Fin.ext hz0.symm
    | ⟨1, _⟩ => apply Fin.ext; have := (z 1).isLt; exact (show (z 1).val = 0 by simpa using this).symm
    | ⟨2, _⟩ => apply Fin.ext; refine (e 2).trans ?_; exact Nat.zero_add _
    | ⟨3, _⟩ => apply Fin.ext; refine (e 3).trans ?_; exact Nat.zero_add _
  dsimp only
  rw [hk]
  exact congrArg _ hz.symm

end Pieces

/-- The offset of a step back in time, closed. -/
theorem off2_eq (t : Fin cfg1.N) (k : Fin k1_t1_loop.trips) (e : Fin 5) : k1_off2 (grid1.coords t) k (stepW e) = ![k.val, t.val - e.val, 0, 0] := by
  revert t k e; decide +kernel
/-- The starting indices of the attention body's load 4, in closed form. -/
theorem off4_eq (t : Fin cfg1.N) (e : Fin 5) : k1_off4 (grid1.coords t) (stepW e) = ![t.val - e.val, 0] := by
  revert t e; decide +kernel
/-- The starting indices of the attention body's load 1, in closed form. -/
theorem off1_eq (k : Fin k1_t1_loop.trips) : k1_off1 k = ![k.val, 0, 0, 0] := by
  revert k; decide +kernel
/-- The starting indices of the attention body's load 3, in closed form. -/
theorem off3_eq (k : Fin k1_t1_loop.trips) : k1_off3 k = ![k.val, 0, 0] := by
  revert k; decide +kernel
/-- The starting indices of the attention body's load 5, in closed form. -/
theorem off5_eq (k : Fin k1_t1_loop.trips) : k1_off5 k = ![k.val, 1, 0] := by
  revert k; decide +kernel
/-- The starting indices of the attention body's load 6, in closed form. -/
theorem off6_eq (k : Fin k1_t1_loop.trips) : k1_off6 k = ![k.val, 2, 0] := by
  revert k; decide +kernel
/-- The starting indices of the attention body's load 7, in closed form. -/
theorem off7_eq (k : Fin k1_t1_loop.trips) : k1_off7 k = ![k.val, 3, 0] := by
  revert k; decide +kernel
/-- The starting indices of the attention body's load 8, in closed form. -/
theorem off8_eq (k : Fin k1_t1_loop.trips) : k1_off8 k = ![k.val, 4, 0] := by
  revert k; decide +kernel

/-- Region 1's grid has eight points. -/
theorem N1_eq : cfg1.N = 8 := by decide +kernel

/-- A grid point as a time. -/
abbrev t8 (t : Fin cfg1.N) : Fin 8 := t.cast N1_eq

/-- The time a step back from `t` reads, held at the first. -/
abbrev past (t : Fin 8) (e : Fin 5) : Fin 8 := ⟨t.val - e.val, by omega⟩

/-- The queries at an index. -/
theorem ldQ_apply (arg1 : Memref sig .tc .vmem S8x1x32x512 .f32) (harg1 : arg1.IsWhole) (x0 : Vec Ideal S8x1x32x512 .f32) (h : Fin 8) (x : Fin 32) (i : Fin 512) :
    ldQ arg1 (harg1.unread x0) (h.cast head_trips.symm) (ix4 0 0 x i) = x0 (ix4 h 0 x i) := by
  refine (harg1.readAt_unread _ _ _).trans ?_
  refine congrArg x0 (funext fun a => Fin.ext ?_)
  refine (emb_off (off1_eq ..) _ a).trans ?_
  fin_cases a <;> simp

/-- The keys at an index. -/
theorem ldK_apply (arg2 : Memref sig .tc .vmem S8x8x32x512 .f32) (harg2 : arg2.IsWhole) (x1 : Vec Ideal S8x8x32x512 .f32) (t : Fin cfg1.N) (h : Fin 8) (e : Fin 5) (x : Fin 32) (j : Fin 512) :
    ldK (grid1.coords t) arg2 (harg2.unread x1) (h.cast head_trips.symm) e (ix4 0 0 x j) = x1 (ix4 h (past (t8 t) e) x j) := by
  refine (harg2.readAt_unread _ _ _).trans ?_
  refine congrArg x1 (funext fun a => Fin.ext ?_)
  refine (emb_off (off2_eq ..) _ a).trans ?_
  fin_cases a <;> simp

/-- The scores at an index. -/
theorem ldS_apply (arg5 : Memref sig .tc .vmem S8x512 .f32) (harg5 : arg5.IsWhole) (x4 : Vec Ideal S8x512 .f32) (t : Fin cfg1.N) (e : Fin 5) (j : Fin 512) :
    ldS (grid1.coords t) arg5 (harg5.unread x4) e (ix2 0 j) = x4 (ix2 (past (t8 t) e) j) := by
  refine (harg5.readAt_unread _ _ _).trans ?_
  refine congrArg x4 (funext fun a => Fin.ext ?_)
  refine (emb_off (off4_eq ..) _ a).trans ?_
  fin_cases a <;> simp

/-- The encodings at an index. -/
theorem ldP_apply (arg6 : Memref sig .tc .vmem S8x8x32 .f32) (harg6 : arg6.IsWhole) (x5 : Vec Ideal S8x8x32 .f32) (h : Fin 8) (e : Fin 5) (x : Fin 32) :
    ldP arg6 (harg6.unread x5) (h.cast head_trips.symm) e (ix3 0 0 x) = x5 (ix3 h (e.castLE (by decide)) x) := by
  match e with
  | 0 =>
    refine (harg6.readAt_unread _ _ _).trans (congrArg x5 (funext fun a => Fin.ext ((emb_off (off3_eq ..) _ a).trans ?_)))
    fin_cases a <;> simp
  | 1 =>
    refine (harg6.readAt_unread _ _ _).trans (congrArg x5 (funext fun a => Fin.ext ((emb_off (off5_eq ..) _ a).trans ?_)))
    fin_cases a <;> simp
  | 2 =>
    refine (harg6.readAt_unread _ _ _).trans (congrArg x5 (funext fun a => Fin.ext ((emb_off (off6_eq ..) _ a).trans ?_)))
    fin_cases a <;> simp
  | 3 =>
    refine (harg6.readAt_unread _ _ _).trans (congrArg x5 (funext fun a => Fin.ext ((emb_off (off7_eq ..) _ a).trans ?_)))
    fin_cases a <;> simp
  | 4 =>
    refine (harg6.readAt_unread _ _ _).trans (congrArg x5 (funext fun a => Fin.ext ((emb_off (off8_eq ..) _ a).trans ?_)))
    fin_cases a <;> simp

/-- Logits of equal operands are equal. -/
theorem logit_congr {b : EReal} {q k p q' k' p' : Fin 32 → EReal} {s s' : EReal} (hq : ∀ x, q x = q' x) (hk : ∀ x, k x = k' x) (hp : ∀ x, p x = p' x) (hs : s = s') :
    logit b q k p s = logit b q' k' p' s' := by
  rw [funext hq, funext hk, funext hp, hs]

/-- The mask bit of a step back in time: the edge is there and the time is. -/
def bit (t : Fin 8) (A : Vec Ideal S512x512 .f32) (i : Fin 512) (n : Fin 2560) : BitVec 1 :=
  IntOp.andi (k1_pay1 A (ix2 i (key n))) (Scalar.cmpi .sge (BitVec.ofNat 32 t.val) (stepW (back n)))

/-- The logit of a flat position from the blocks. -/
def lgt (t : Fin 8) (q : Fin 32 → EReal) (k : Fin 8 → Fin 32 → Fin 512 → EReal) (p : Fin 5 → Fin 32 → EReal) (s : Fin 8 → Fin 512 → EReal) (b : Fin 2560 → BitVec 1) (n : Fin 2560) : EReal :=
  if b n = 1#1 then logit (biasV (F := Ideal) (back n)) q (fun x => k (past t (back n)) x (key n)) (p (back n)) (s (past t (back n)) (key n)) else ⊥

/-- The output block at an index. -/
theorem out1_apply (c : Dev nD) (t : Fin cfg1.N) (arg1 : Memref sig .tc .vmem S8x1x32x512 .f32) (harg1 : arg1.IsWhole) (arg2 : Memref sig .tc .vmem S8x8x32x512 .f32) (harg2 : arg2.IsWhole) (arg3 : Memref sig .tc .vmem S8x8x32x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x8x32 .f32) (harg6 : arg6.IsWhole) (arg7 : Memref sig .tc .vmem S8x1x512x32 .f32) (harg7 : arg7.IsWhole) (arg8 : Memref sig .tc .vmem S512x2560 .f32) (harg8 : arg8.IsWhole) (arg9 : Memref sig .tc .vmem S512x2560 .f32) (harg9 : arg9.IsWhole) (x0 : Vec Ideal S8x1x32x512 .f32) (x1 : Vec Ideal S8x8x32x512 .f32) (x2 : Vec Ideal S8x8x32x512 .f32) (x3 : Vec Ideal S512x512 .f32) (x4 : Vec Ideal S8x512 .f32) (x5 : Vec Ideal S8x8x32 .f32) (h : Fin 8) (i : Fin 512) (d : Fin 32) :
    out1_A_6 (F := Ideal) c (grid1.coords t) arg1 harg1 arg2 harg2 arg3 harg3 arg4 harg4 arg5 harg5 arg6 harg6 arg7 harg7 arg8 harg8 arg9 harg9 x0 x1 x2 x3 x4 x5 (ix4 h 0 i d)
      = rowOut (lgt (t8 t) (fun x => x0 (ix4 h 0 x i)) (fun u x j => x1 (ix4 h u x j)) (fun e x => x5 (ix3 h (e.castLE (by decide)) x)) (fun u j => x4 (ix2 u j)) (bit (t8 t) x3 i))
          (bit (t8 t) x3 i) (fun n => x2 (ix4 h (past (t8 t) (back n)) d (key n))) := by
  unfold out1_A_6
  rw [View.read_writes_junk_eq_canon, kernelRun1_A_eq, heads_canon]
  refine (headV_apply _ _ _ _ _ _ _ i d).trans ?_
  have hA : View.readAt (Elt Ideal) arg4.view (Rect.unit (s := S512x512) ![0, 0] S512x512.size inb_S512x512_S512x512_0_0).toLoadRect (harg4.unread x3) = x3 := by
    funext y
    refine (harg4.readAt_unread _ _ _).trans ?_
    refine congrArg x3 (funext fun a => Fin.ext ((ValueKit.rect_emb_unit_val _ _ _ _ _).trans ?_))
    fin_cases a <;> simp
  rw [hA]
  have hk : headOf (ix4 h 0 i d) = h.cast head_trips.symm := rfl
  rw [hk]
  have ht : ((grid1.coords t) 0).val = t.val := by revert t; decide +kernel
  rw [ht]
  refine congrArg₂ (fun L V => rowOut L (bit (t8 t) x3 i) V) (funext fun n => ?_) (funext fun n => ?_)
  · refine if_congr Iff.rfl ?_ rfl
    refine logit_congr (fun x => ?_) (fun x => ?_) (fun x => ?_) ?_
    · exact ldQ_apply (harg1 := harg1) ..
    · exact ldK_apply (harg2 := harg2) ..
    · exact ldP_apply (harg6 := harg6) ..
    · exact ldS_apply (harg5 := harg5) ..
  · exact ldK_apply (harg2 := harg3) ..

end Cert.KernelIdeal.Run

end
-- ==== Proof.Value.Arrays.lean ====
/- What the two kernels leave in their result arrays, read at an index. -/
module

public import proofs.«01_k».proof.Proof.Value.Blocks
public import Idealize.ShloMosaic.Lib.Pointwise

@[expose] public section

set_option maxRecDepth 16384

noncomputable section

namespace Cert.KernelIdeal.Run

open Cert.KernelIdeal Cert.KernelIdeal.Gen Cert.KernelIdeal.Head
open Idealize.ShloMosaic Idealize.ShloMosaic.TcCoe Idealize.ShloMosaic.Tactic

variable (V : (c : Dev nD) → (b : Ref sig .tc) → Buf (Elt Ideal) ((c : Thread nD τ).loc b))

/-- At each grid point, which block of its array region 1's window 0 holds. -/
theorem idx1_0 : ∀ t : Fin cfg1.N, win1_0.index t = ![0, t.val, 0, 0] := (by decide +kernel : ∀ t : Fin grid1.N, _)
/-- At each grid point, which block of its array region 1's window 1 holds. -/
theorem idx1_1 : ∀ t : Fin cfg1.N, win1_1.index t = ![0, 0, 0, 0] := (by decide +kernel : ∀ t : Fin grid1.N, _)
/-- At each grid point, which block of its array region 1's window 2 holds. -/
theorem idx1_2 : ∀ t : Fin cfg1.N, win1_2.index t = ![0, 0, 0, 0] := (by decide +kernel : ∀ t : Fin grid1.N, _)
/-- At each grid point, which block of its array region 1's window 3 holds. -/
theorem idx1_3 : ∀ t : Fin cfg1.N, win1_3.index t = ![0, 0] := (by decide +kernel : ∀ t : Fin grid1.N, _)
/-- At each grid point, which block of its array region 1's window 4 holds. -/
theorem idx1_4 : ∀ t : Fin cfg1.N, win1_4.index t = ![0, 0] := (by decide +kernel : ∀ t : Fin grid1.N, _)
/-- At each grid point, which block of its array region 1's window 5 holds. -/
theorem idx1_5 : ∀ t : Fin cfg1.N, win1_5.index t = ![0, 0, 0] := (by decide +kernel : ∀ t : Fin grid1.N, _)
/-- At each grid point, which block of its array region 1's window 6 holds. -/
theorem idx1_6 : ∀ t : Fin cfg1.N, win1_6.index t = ![0, t.val, 0, 0] := (by decide +kernel : ∀ t : Fin grid1.N, _)

/-- The query block at an index. -/
theorem iblk1_0 (c : Dev nD) (t : Fin cfg1.N) (h : Fin 8) (x : Fin 32) (i : Fin 512) :
    iblk1 V c 0 t (ix4 h 0 x i) = V c main_v62_0 (ix4 h (t8 t) x i) := by
  blk_simp [iblk1]
  refine congrArg _ (funext fun a => Fin.ext ?_)
  fin_cases a <;> blk_simp [idx1_0] <;> rfl

/-- The keys block is the whole array. -/
theorem iblk1_1 (c : Dev nD) (t : Fin cfg1.N) : iblk1 V c 1 t = V c (Pipeline.arrRef spec1 1) := by
  funext y
  blk_simp [iblk1]
  blk_ext [idx1_1]

/-- The values block is the whole array. -/
theorem iblk1_2 (c : Dev nD) (t : Fin cfg1.N) : iblk1 V c 2 t = V c (Pipeline.arrRef spec1 2) := by
  funext y
  blk_simp [iblk1]
  blk_ext [idx1_2]

/-- The adjacency block is the whole array. -/
theorem iblk1_3 (c : Dev nD) (t : Fin cfg1.N) : iblk1 V c 3 t = V c (Pipeline.arrRef spec1 3) := by
  funext y
  blk_simp [iblk1]
  blk_ext [idx1_3]

/-- The scores block is the whole array. -/
theorem iblk1_4 (c : Dev nD) (t : Fin cfg1.N) : iblk1 V c 4 t = V c (Pipeline.arrRef spec1 4) := by
  funext y
  blk_simp [iblk1]
  blk_ext [idx1_4]

/-- The encodings block is the whole array. -/
theorem iblk1_5 (c : Dev nD) (t : Fin cfg1.N) : iblk1 V c 5 t = V c (Pipeline.arrRef spec1 5) := by
  funext y
  blk_simp [iblk1]
  blk_ext [idx1_5]

/-- The attention of head `h` at time `t`, query `i` and coordinate `d`, from the arrays the kernel reads. -/
def attn (c : Dev nD) (h t : Fin 8) (i : Fin 512) (d : Fin 32) : EReal :=
  rowOut (lgt t (fun x => V c main_v62_0 (ix4 h t x i)) (fun u x j => V c main_v62_1 (ix4 h u x j)) (fun e x => V c (Pipeline.arrRef spec1 5) (ix3 h (e.castLE (by decide)) x))
      (fun u j => V c (Pipeline.arrRef spec1 4) (ix2 u j)) (bit t (V c (Pipeline.arrRef spec1 3)) i))
    (bit t (V c (Pipeline.arrRef spec1 3)) i) (fun n => V c main_v62_2 (ix4 h (past t (back n)) d (key n)))

/-- Where the block's indices lie in the array. -/
theorem emb1_6 (t : Fin cfg1.N) (y : S8x1x512x32.Idx) :
    (win1_6.blk t).view.emb y = (ix4 (y 0) (t8 t) (y 2) (y 3) : S8x8x512x32.Idx) := by
  funext a
  apply Fin.ext
  have h1 : (y 1).val = 0 := by have := (y 1).isLt; simpa using this
  fin_cases a
  · blk_simp [idx1_6]; rfl
  · blk_simp [idx1_6]; rfl
  · blk_simp [idx1_6]; rfl
  · blk_simp [idx1_6]; rfl

/-- An index of the block, by its coordinates. -/
theorem blkIdx1_6 (y : S8x1x512x32.Idx) : y = ix4 (y 0) 0 (y 2) (y 3) := by
  funext a
  match a with
  | ⟨0, _⟩ => rfl
  | ⟨1, _⟩ => apply Fin.ext; have := (y 1).isLt; exact (show (y 1).val = 0 by simpa using this)
  | ⟨2, _⟩ => rfl
  | ⟨3, _⟩ => rfl

/-- What the result array of the attention kernel is shown to hold. -/
def arrG1 (c : Dev nD) : Vec Ideal S8x8x512x32 .f32 := fun y => attn V c (y 0) (y 1) (y 2) (y 3)

/-- The output block at an index of the array. -/
theorem outsAt1_apply (c : Dev nD) (t : Fin cfg1.N) (h : Fin 8) (i : Fin 512) (d : Fin 32) :
    outsAt1 V c t (ix4 h 0 i d) = attn V c h (t8 t) i d := by
  unfold outsAt1
  refine (out1_apply ..).trans ?_
  rw [iblk1_1, iblk1_2, iblk1_3, iblk1_4, iblk1_5]
  simp only [iblk1_0]
  rfl

/-- The result array of the attention kernel. -/
theorem arr1 (c : Dev nD) : (dat1 V c).arrAt 6 cfg1.N = arrG1 V c := by
  refine (dat1 V c).arrAt_eq_of_covers 6 _ (by decide +kernel) fun t hf y => ?_
  blk_simp
  rw [after1_6, emb1_6]
  refine (congrArg (outsAt1 V c t) (blkIdx1_6 y)).trans ?_
  exact outsAt1_apply V c t _ _ _

/-- At each grid point, which block of its array region 0's window 0 holds. -/
theorem idx0_0 : ∀ t : Fin cfg0.N, win0_0.index t = ![t.val, 0, 0] := (by decide +kernel : ∀ t : Fin grid0.N, _)
/-- At each grid point, which block of its array region 0's window 1 holds. -/
theorem idx0_1 : ∀ t : Fin cfg0.N, win0_1.index t = ![0, 0] := (by decide +kernel : ∀ t : Fin grid0.N, _)
/-- At each grid point, which block of its array region 0's window 2 holds. -/
theorem idx0_2 : ∀ t : Fin cfg0.N, win0_2.index t = ![0, 0] := (by decide +kernel : ∀ t : Fin grid0.N, _)
/-- At each grid point, which block of its array region 0's window 3 holds. -/
theorem idx0_3 : ∀ t : Fin cfg0.N, win0_3.index t = ![0, 0] := (by decide +kernel : ∀ t : Fin grid0.N, _)
/-- At each grid point, which block of its array region 0's window 4 holds. -/
theorem idx0_4 : ∀ t : Fin cfg0.N, win0_4.index t = ![0, t.val, 0, 0] := (by decide +kernel : ∀ t : Fin grid0.N, _)
/-- At each grid point, which block of its array region 0's window 5 holds. -/
theorem idx0_5 : ∀ t : Fin cfg0.N, win0_5.index t = ![0, t.val, 0, 0] := (by decide +kernel : ∀ t : Fin grid0.N, _)
/-- At each grid point, which block of its array region 0's window 6 holds. -/
theorem idx0_6 : ∀ t : Fin cfg0.N, win0_6.index t = ![0, t.val, 0, 0] := (by decide +kernel : ∀ t : Fin grid0.N, _)

/-- Region 0's grid has eight points. -/
theorem N0_eq : cfg0.N = 8 := by decide +kernel

/-- The features block at an index. -/
theorem iblk0_0 (c : Dev nD) (t : Fin cfg0.N) (k : Fin 256) (i : Fin 512) :
    iblk0 V c 0 t (ix3 0 k i) = V c (Pipeline.arrRef spec0 0) (ix3 (t.cast N0_eq) k i) := by
  blk_simp [iblk0]
  refine congrArg _ (funext fun a => Fin.ext ?_)
  fin_cases a <;> blk_simp [idx0_0] <;> rfl

/-- The weight block 1 is the whole array. -/
theorem iblk0_1 (c : Dev nD) (t : Fin cfg0.N) : iblk0 V c 1 t = V c (Pipeline.arrRef spec0 1) := by
  funext y
  blk_simp [iblk0]
  blk_ext [idx0_1]

/-- The weight block 2 is the whole array. -/
theorem iblk0_2 (c : Dev nD) (t : Fin cfg0.N) : iblk0 V c 2 t = V c (Pipeline.arrRef spec0 2) := by
  funext y
  blk_simp [iblk0]
  blk_ext [idx0_2]

/-- The weight block 3 is the whole array. -/
theorem iblk0_3 (c : Dev nD) (t : Fin cfg0.N) : iblk0 V c 3 t = V c (Pipeline.arrRef spec0 3) := by
  funext y
  blk_simp [iblk0]
  blk_ext [idx0_3]

/-- Coordinate `x` of head `h` among all the coordinates. -/
abbrev coord (h : Fin 8) (x : Fin 32) : Fin 256 := ⟨h.val * 32 + x.val, by omega⟩

/-- The projection by the array `W`, read at head, time, coordinate and node. -/
def proj (W : Vec Ideal S256x256 .f32) (H : Vec Ideal S8x256x512 .f32) (h t : Fin 8) (x : Fin 32) (i : Fin 512) : EReal :=
  ∑ k : Fin 256, W (ix2 (coord h x) k) * H (ix3 t k i)

/-- The projection block 0 at an index. -/
theorem out0_4_apply (x0 : Vec Ideal S1x256x512 .f32) (x1 x2 x3 : Vec Ideal S256x256 .f32) (h : Fin 8) (x : Fin 32) (i : Fin 512) :
    out0_4 x0 x1 x2 x3 (ix4 h 0 x i) = ∑ k : Fin 256, x1 (ix2 (coord h x) k) * x0 (ix3 0 k i) := by
  unfold out0_4
  frame_out
  pointwise [k0_pay2, k0_pay1]

/-- Where the block's indices lie in the array. -/
theorem emb0_4 (t : Fin cfg0.N) (y : S8x1x32x512.Idx) :
    (win0_4.blk t).view.emb y = (ix4 (y 0) (t.cast N0_eq) (y 2) (y 3) : S8x8x32x512.Idx) := by
  funext a
  apply Fin.ext
  have h1 : (y 1).val = 0 := by have := (y 1).isLt; simpa using this
  fin_cases a
  · blk_simp [idx0_4]; rfl
  · blk_simp [idx0_4]; rfl
  · blk_simp [idx0_4]; rfl
  · blk_simp [idx0_4]; rfl

/-- An index of the block, by its coordinates. -/
theorem blkIdx0_4 (y : S8x1x32x512.Idx) : y = ix4 (y 0) 0 (y 2) (y 3) := by
  funext a
  match a with
  | ⟨0, _⟩ => rfl
  | ⟨1, _⟩ => apply Fin.ext; have := (y 1).isLt; exact (show (y 1).val = 0 by simpa using this)
  | ⟨2, _⟩ => rfl
  | ⟨3, _⟩ => rfl

/-- The projection block at an index of the array. -/
theorem after0_4_apply (c : Dev nD) (t : Fin cfg0.N) (h : Fin 8) (x : Fin 32) (i : Fin 512) :
    out0_4 (iblk0 V c 0 t) (iblk0 V c 1 t) (iblk0 V c 2 t) (iblk0 V c 3 t) (ix4 h 0 x i)
      = proj (V c (Pipeline.arrRef spec0 1)) (V c (Pipeline.arrRef spec0 0)) h (t.cast N0_eq) x i := by
  refine (out0_4_apply ..).trans ?_
  rw [iblk0_1]
  simp only [iblk0_0]
  rfl

/-- What a projection array is shown to hold. -/
def arrG0 (W : Vec Ideal S256x256 .f32) (H : Vec Ideal S8x256x512 .f32) : Vec Ideal S8x8x32x512 .f32 := fun y => proj W H (y 0) (y 1) (y 2) (y 3)

/-- Projection array 0. -/
theorem arr0_4 (c : Dev nD) : (dat0 V c).arrAt 4 cfg0.N = arrG0 (V c (Pipeline.arrRef spec0 1)) (V c (Pipeline.arrRef spec0 0)) := by
  refine (dat0 V c).arrAt_eq_of_covers 4 _ (by decide +kernel) fun t hf y => ?_
  blk_simp
  rw [after0_4, emb0_4]
  refine (congrArg (out0_4 (iblk0 V c 0 t) (iblk0 V c 1 t) (iblk0 V c 2 t) (iblk0 V c 3 t)) (blkIdx0_4 y)).trans ?_
  exact after0_4_apply V c t _ _ _

/-- The projection block 1 at an index. -/
theorem out0_5_apply (x0 : Vec Ideal S1x256x512 .f32) (x1 x2 x3 : Vec Ideal S256x256 .f32) (h : Fin 8) (x : Fin 32) (i : Fin 512) :
    out0_5 x0 x1 x2 x3 (ix4 h 0 x i) = ∑ k : Fin 256, x2 (ix2 (coord h x) k) * x0 (ix3 0 k i) := by
  unfold out0_5
  frame_out
  pointwise [k0_pay3, k0_pay1]

/-- Where the block's indices lie in the array. -/
theorem emb0_5 (t : Fin cfg0.N) (y : S8x1x32x512.Idx) :
    (win0_5.blk t).view.emb y = (ix4 (y 0) (t.cast N0_eq) (y 2) (y 3) : S8x8x32x512.Idx) := by
  funext a
  apply Fin.ext
  have h1 : (y 1).val = 0 := by have := (y 1).isLt; simpa using this
  fin_cases a
  · blk_simp [idx0_5]; rfl
  · blk_simp [idx0_5]; rfl
  · blk_simp [idx0_5]; rfl
  · blk_simp [idx0_5]; rfl

/-- An index of the block, by its coordinates. -/
theorem blkIdx0_5 (y : S8x1x32x512.Idx) : y = ix4 (y 0) 0 (y 2) (y 3) := by
  funext a
  match a with
  | ⟨0, _⟩ => rfl
  | ⟨1, _⟩ => apply Fin.ext; have := (y 1).isLt; exact (show (y 1).val = 0 by simpa using this)
  | ⟨2, _⟩ => rfl
  | ⟨3, _⟩ => rfl

/-- The projection block at an index of the array. -/
theorem after0_5_apply (c : Dev nD) (t : Fin cfg0.N) (h : Fin 8) (x : Fin 32) (i : Fin 512) :
    out0_5 (iblk0 V c 0 t) (iblk0 V c 1 t) (iblk0 V c 2 t) (iblk0 V c 3 t) (ix4 h 0 x i)
      = proj (V c (Pipeline.arrRef spec0 2)) (V c (Pipeline.arrRef spec0 0)) h (t.cast N0_eq) x i := by
  refine (out0_5_apply ..).trans ?_
  rw [iblk0_2]
  simp only [iblk0_0]
  rfl

/-- Projection array 1. -/
theorem arr0_5 (c : Dev nD) : (dat0 V c).arrAt 5 cfg0.N = arrG0 (V c (Pipeline.arrRef spec0 2)) (V c (Pipeline.arrRef spec0 0)) := by
  refine (dat0 V c).arrAt_eq_of_covers 5 _ (by decide +kernel) fun t hf y => ?_
  blk_simp
  rw [after0_5, emb0_5]
  refine (congrArg (out0_5 (iblk0 V c 0 t) (iblk0 V c 1 t) (iblk0 V c 2 t) (iblk0 V c 3 t)) (blkIdx0_5 y)).trans ?_
  exact after0_5_apply V c t _ _ _

/-- The projection block 2 at an index. -/
theorem out0_6_apply (x0 : Vec Ideal S1x256x512 .f32) (x1 x2 x3 : Vec Ideal S256x256 .f32) (h : Fin 8) (x : Fin 32) (i : Fin 512) :
    out0_6 x0 x1 x2 x3 (ix4 h 0 x i) = ∑ k : Fin 256, x3 (ix2 (coord h x) k) * x0 (ix3 0 k i) := by
  unfold out0_6
  frame_out
  pointwise [k0_pay4, k0_pay1]

/-- Where the block's indices lie in the array. -/
theorem emb0_6 (t : Fin cfg0.N) (y : S8x1x32x512.Idx) :
    (win0_6.blk t).view.emb y = (ix4 (y 0) (t.cast N0_eq) (y 2) (y 3) : S8x8x32x512.Idx) := by
  funext a
  apply Fin.ext
  have h1 : (y 1).val = 0 := by have := (y 1).isLt; simpa using this
  fin_cases a
  · blk_simp [idx0_6]; rfl
  · blk_simp [idx0_6]; rfl
  · blk_simp [idx0_6]; rfl
  · blk_simp [idx0_6]; rfl

/-- An index of the block, by its coordinates. -/
theorem blkIdx0_6 (y : S8x1x32x512.Idx) : y = ix4 (y 0) 0 (y 2) (y 3) := by
  funext a
  match a with
  | ⟨0, _⟩ => rfl
  | ⟨1, _⟩ => apply Fin.ext; have := (y 1).isLt; exact (show (y 1).val = 0 by simpa using this)
  | ⟨2, _⟩ => rfl
  | ⟨3, _⟩ => rfl

/-- The projection block at an index of the array. -/
theorem after0_6_apply (c : Dev nD) (t : Fin cfg0.N) (h : Fin 8) (x : Fin 32) (i : Fin 512) :
    out0_6 (iblk0 V c 0 t) (iblk0 V c 1 t) (iblk0 V c 2 t) (iblk0 V c 3 t) (ix4 h 0 x i)
      = proj (V c (Pipeline.arrRef spec0 3)) (V c (Pipeline.arrRef spec0 0)) h (t.cast N0_eq) x i := by
  refine (out0_6_apply ..).trans ?_
  rw [iblk0_3]
  simp only [iblk0_0]
  rfl

/-- Projection array 2. -/
theorem arr0_6 (c : Dev nD) : (dat0 V c).arrAt 6 cfg0.N = arrG0 (V c (Pipeline.arrRef spec0 3)) (V c (Pipeline.arrRef spec0 0)) := by
  refine (dat0 V c).arrAt_eq_of_covers 6 _ (by decide +kernel) fun t hf y => ?_
  blk_simp
  rw [after0_6, emb0_6]
  refine (congrArg (out0_6 (iblk0 V c 0 t) (iblk0 V c 1 t) (iblk0 V c 2 t) (iblk0 V c 3 t)) (blkIdx0_6 y)).trans ?_
  exact after0_6_apply V c t _ _ _

end Cert.KernelIdeal.Run

end
-- ==== Proof.Value.Host.lean ====
/- What the kernel's host operations leave in the arrays the two kernels read. -/
module

public import proofs.«01_k».proof.Proof.Value.Arrays
public import proofs.«01_k».proof.Proof.Gen.ReferenceIdeal.Read
public import Idealize.ShloMosaic.Lib.StableHlo.RunRead
public import Idealize.ShloMosaic.Lib.Pointwise

@[expose] public section

set_option maxRecDepth 16384

noncomputable section

namespace Cert.KernelIdeal.Run

open Cert.KernelIdeal Cert.KernelIdeal.Gen Cert.KernelIdeal.Head
open Idealize.ShloMosaic Idealize.ShloMosaic.TcCoe Idealize.ShloMosaic.Tactic Idealize.ShloMosaic.StableHlo

variable (m : (ℓ : Loc nD τ sig) → Buf (Elt Ideal) ℓ) (ρ : Dev nD → PrngReg)

/-- Region 0 reads `H` with its last two axes exchanged. -/
theorem W3_v57 (c : Dev nD) : W3 m ρ c (Proc.devRef .tc main_v57)
    = transpose S8x256x512 [0, 2, 1] (m ((c : Thread nD τ).loc main_arg0)) transposes_S8x512x256_S8x256x512_0_2_1 := by
  rw [← W2_args m ρ c main_arg0 (by decide)]
  unfold W3
  generalize W2 m ρ c = V
  after_reads_simp

/-- Region 0 reads the query weights transposed. -/
theorem W3_v58 (c : Dev nD) : W3 m ρ c (Proc.devRef .tc main_v58)
    = transpose S256x256 [1, 0] (m ((c : Thread nD τ).loc main_arg4)) transposes_S256x256_S256x256_1_0 := by
  rw [← W2_args m ρ c main_arg4 (by decide)]
  unfold W3
  generalize W2 m ρ c = V
  after_reads_simp

/-- Region 0 reads the first 256 rows of the key weights, transposed. -/
theorem W3_v60 (c : Dev nD) : W3 m ρ c (Proc.devRef .tc main_v60)
    = transpose S256x256 [1, 0] (extractStridedSlice S256x256 ![0, 0] (m ((c : Thread nD τ).loc main_arg5)) slices_S264x256_S256x256_0_0) transposes_S256x256_S256x256_1_0 := by
  rw [← W2_args m ρ c main_arg5 (by decide)]
  unfold W3
  generalize W2 m ρ c = V
  after_reads_simp

/-- Region 0 reads the value weights transposed. -/
theorem W3_v61 (c : Dev nD) : W3 m ρ c (Proc.devRef .tc main_v61)
    = transpose S256x256 [1, 0] (m ((c : Thread nD τ).loc main_arg6)) transposes_S256x256_S256x256_1_0 := by
  rw [← W2_args m ρ c main_arg6 (by decide)]
  unfold W3
  generalize W2 m ρ c = V
  after_reads_simp

/-- The first index column (edge targets) is the reference's. -/
theorem ops_v15 (V : Valuation τ sig (Elt Ideal)) : upto hostOps0 V 22 (Proc.tc.devRef main_v15)
    = Cert.ReferenceIdeal.Read.val_main_v94 (F := Ideal) (V (Proc.tc.devRef main_arg2)) := by
  after_reads_simp
  rfl

/-- The second index column (edge sources) is the reference's. -/
theorem ops_v16 (V : Valuation τ sig (Elt Ideal)) : upto hostOps0 V 22 (Proc.tc.devRef main_v16)
    = Cert.ReferenceIdeal.Read.val_main_v95 (F := Ideal) (V (Proc.tc.devRef main_arg2)) := by
  after_reads_simp
  rfl

/-- The adjacency matrix: ones scattered into zeros at the reference's index pairs. -/
theorem W1_v19 (c : Dev nD) : W1 m ρ c (Proc.devRef .tc main_v19)
    = Host.scatter scatter_S512x512_S8192x2_S8192_n_01_01_1 (fun _ b => b) (broadcastInDim S512x512 ![] bcast_S_S512x512 (constant (F := Ideal) S_ .f32 0x00000000#32))
        (Cert.ReferenceIdeal.Read.val_main_v96 (F := Ideal) (m ((c : Thread nD τ).loc main_arg2))) (broadcastInDim S8192 ![] bcast_S_S8192 (constant (F := Ideal) S_ .f32 0x3F800000#32)) := by
  rw [← W0_args m ρ c main_arg2 (by decide)]
  unfold W1
  generalize W0 m ρ c = V
  after_reads_simp
  rw [ops_v15, ops_v16]
  rfl

/-- The table's first two columns are the reference's. -/
theorem ops_v31 (V : Valuation τ sig (Elt Ideal)) : upto hostOps0 V 57 (Proc.tc.devRef main_v31)
    = Cert.ReferenceIdeal.Read.val_main_v11 (F := Ideal) := by
  after_reads_simp
  rfl

/-- The table's sine columns are the reference's. -/
theorem ops_v44 (V : Valuation τ sig (Elt Ideal)) : upto hostOps0 V 57 (Proc.tc.devRef main_v44)
    = Cert.ReferenceIdeal.Read.val_main_v24 (F := Ideal) := by
  after_reads_simp
  rfl

/-- The table's cosine columns are the reference's. -/
theorem ops_v45 (V : Valuation τ sig (Elt Ideal)) : upto hostOps0 V 57 (Proc.tc.devRef main_v45)
    = Cert.ReferenceIdeal.Read.val_main_v25 (F := Ideal) := by
  after_reads_simp
  rfl

/-- A table times the key weights' last eight rows, summed over the table's eight columns. -/
def tableSum (z : FVec Ideal S5x8 .f32) (w : FVec Ideal S264x256 .f32) : FVec Ideal S5x256 .f32 :=
  Host.reduceAdd (mulf (broadcastInDim S5x8x256 ![0, 1, 2] bcast_S5x8x1_S5x8x256_0_1_2 (broadcastInDim S5x8x1 ![0, 1] bcast_S5x8_S5x8x1_0_1 z))
    (broadcastInDim S5x8x256 ![0, 1, 2] bcast_S1x8x256_S5x8x256_0_1_2 (broadcastInDim S1x8x256 ![1, 2] bcast_S8x256_S1x8x256_1_2 (extractStridedSlice S8x256 ![256, 0] w slices_S264x256_S8x256_256_0))))
    (constant (F := Ideal) S_ .f32 0x00000000#32) reducesTo_S5x8x256_S5x256_d1 h_S_

/-- The position table's own such sum. -/
def peSum (w : FVec Ideal S264x256 .f32) : FVec Ideal S5x256 .f32 := tableSum (Cert.ReferenceIdeal.Read.val_main_v26 (F := Ideal)) w

/-- The kernel's table is the reference's. -/
theorem ops_table (V : Valuation τ sig (Elt Ideal)) :
    concatenate S5x8 1 [⟨S5x2, (upto hostOps0 V 57 (Proc.tc.devRef main_v31) : FVec Ideal S5x2 .f32)⟩, ⟨S5x3, (upto hostOps0 V 57 (Proc.tc.devRef main_v44) : FVec Ideal S5x3 .f32)⟩, ⟨S5x3, (upto hostOps0 V 57 (Proc.tc.devRef main_v45) : FVec Ideal S5x3 .f32)⟩] concatenates_S5x2_S5x3_S5x3_S5x8_d1
      = Cert.ReferenceIdeal.Read.val_main_v26 (F := Ideal) := by
  rw [ops_v31, ops_v44, ops_v45]
  rfl

/-- The host's projected table. -/
theorem W1_v53 (c : Dev nD) : W1 m ρ c (Proc.devRef .tc main_v53) = peSum (m ((c : Thread nD τ).loc main_arg5)) := by
  rw [← W0_args m ρ c main_arg5 (by decide)]
  unfold W1
  generalize W0 m ρ c = V
  after_reads_simp
  exact congrArg (fun z => tableSum z (V (Proc.devRef .tc main_arg5))) (ops_table V)

/-- At a table row, head and coordinate: eight products summed. -/
theorem peSum_apply (w : FVec Ideal S264x256 .f32) (e : Fin 5) (n : Fin 256) :
    peSum w (ix2 e n) = ∑ r : Fin 8, Cert.ReferenceIdeal.Read.val_main_v26 (F := Ideal) (ix2 e r) * w (ix2 (⟨256 + r.val, by omega⟩ : Fin 264) n) := by
  unfold peSum tableSum
  pointwise

/-- The table's rows as region 1 reads them. -/
theorem W3_v56 (c : Dev nD) (h : Fin 8) (e : Fin 5) (x : Fin 32) :
    W3 m ρ c (Proc.devRef .tc main_v56) (ix3 h (e.castLE (by decide)) x) = peSum (m ((c : Thread nD τ).loc main_arg5)) (ix2 e (coord h x)) := by
  rw [← W1_v53 m ρ c]
  have h2 : W3 m ρ c (Proc.devRef .tc main_v56) = transpose S8x8x32 [1, 0, 2] (shapeCast S8x8x32 (pad S8x256 ![0, 0] ![3, 0] ![0, 0] (W1 m ρ c (Proc.devRef .tc main_v53) : FVec Ideal S5x256 .f32)
      (sitofp (F := Ideal) .f32 (W1 m ρ c (Proc.devRef .tc main_c_10) : S_.Idx → BitVec 32)) pads_S5x256_S8x256_030_000 h_S_) shapeCasts_S8x256_S8x8x32) transposes_S8x8x32_S8x8x32_1_0_2 := by
    unfold W3 W2
    after_reads_simp
    rfl
  rw [h2]
  generalize W1 m ρ c (Proc.devRef .tc main_v53) = X
  pointwise
  rw [dif_pos]
  · rfl
  · intro a
    have h0 := e.isLt
    have h1 := (coord h x).isLt
    match a with
    | ⟨0, _⟩ => exact ⟨Nat.zero_le _, Nat.mod_one _, by simpa using h0⟩
    | ⟨1, _⟩ => exact ⟨Nat.zero_le _, Nat.mod_one _, by simpa using h1⟩

/-! ## The arrays as region 1 finds them, by the arguments -/

/-- One head coordinate of the node features times a weight matrix: row `i` of step `t` against column `h*32+x`. -/
def headProj (w : FVec Ideal S256x256 .f32) (H : FVec Ideal S8x512x256 .f32) (h t : Fin 8) (x : Fin 32) (i : Fin 512) : EReal :=
  ∑ k : Fin 256, w (ix2 k (coord h x)) * H (ix3 t i k)

/-- The same against the first 256 rows of the key weights. -/
def keyProj (w : FVec Ideal S264x256 .f32) (H : FVec Ideal S8x512x256 .f32) (h t : Fin 8) (x : Fin 32) (i : Fin 512) : EReal :=
  ∑ k : Fin 256, w (ix2 (k.castLE (by decide) : Fin 264) (coord h x)) * H (ix3 t i k)

/-- The query projection region 1 reads. -/
theorem V4_q (c : Dev nD) (h t : Fin 8) (x : Fin 32) (i : Fin 512) :
    (V4 m ρ c main_v62_0 : FVec Ideal S8x8x32x512 .f32) (ix4 h t x i)
      = headProj (m ((c : Thread nD τ).loc main_arg4)) (m ((c : Thread nD τ).loc main_arg0)) h t x i := by
  have e : V4 m ρ c main_v62_0 = arrG0 (V3 m ρ c (Pipeline.arrRef spec0 1)) (V3 m ρ c (Pipeline.arrRef spec0 0)) :=
    (W4_arr m ρ c 4).trans (arr0_4 (V3 m ρ) c)
  rw [e]
  show proj (W3 m ρ c (Proc.devRef .tc main_v58)) (W3 m ρ c (Proc.devRef .tc main_v57)) h t x i = _
  rw [W3_v58, W3_v57]
  unfold proj headProj
  pointwise

/-- The key projection region 1 reads, before the table's part. -/
theorem V4_k (c : Dev nD) (h t : Fin 8) (x : Fin 32) (i : Fin 512) :
    (V4 m ρ c main_v62_1 : FVec Ideal S8x8x32x512 .f32) (ix4 h t x i)
      = keyProj (m ((c : Thread nD τ).loc main_arg5)) (m ((c : Thread nD τ).loc main_arg0)) h t x i := by
  have e : V4 m ρ c main_v62_1 = arrG0 (V3 m ρ c (Pipeline.arrRef spec0 2)) (V3 m ρ c (Pipeline.arrRef spec0 0)) :=
    (W4_arr m ρ c 5).trans (arr0_5 (V3 m ρ) c)
  rw [e]
  show proj (W3 m ρ c (Proc.devRef .tc main_v60)) (W3 m ρ c (Proc.devRef .tc main_v57)) h t x i = _
  rw [W3_v60, W3_v57]
  unfold proj keyProj
  pointwise
  rfl

/-- The value projection region 1 reads. -/
theorem V4_v (c : Dev nD) (h t : Fin 8) (x : Fin 32) (i : Fin 512) :
    (V4 m ρ c main_v62_2 : FVec Ideal S8x8x32x512 .f32) (ix4 h t x i)
      = headProj (m ((c : Thread nD τ).loc main_arg6)) (m ((c : Thread nD τ).loc main_arg0)) h t x i := by
  have e : V4 m ρ c main_v62_2 = arrG0 (V3 m ρ c (Pipeline.arrRef spec0 3)) (V3 m ρ c (Pipeline.arrRef spec0 0)) :=
    (W4_arr m ρ c 6).trans (arr0_6 (V3 m ρ) c)
  rw [e]
  show proj (W3 m ρ c (Proc.devRef .tc main_v61)) (W3 m ρ c (Proc.devRef .tc main_v57)) h t x i = _
  rw [W3_v61, W3_v57]
  unfold proj headProj
  pointwise

/-- Region 1 reads the speaking signal itself. -/
theorem V4_s (c : Dev nD) : V4 m ρ c (Pipeline.arrRef spec1 4) = m ((c : Thread nD τ).loc main_arg1) :=
  W4_args m ρ c main_arg1 (by decide)

/-- Region 1 reads the table's projections. -/
theorem V4_p (c : Dev nD) (h : Fin 8) (e : Fin 5) (x : Fin 32) :
    (V4 m ρ c (Pipeline.arrRef spec1 5) : FVec Ideal S8x8x32 .f32) (ix3 h (e.castLE (by decide)) x) = peSum (m ((c : Thread nD τ).loc main_arg5)) (ix2 e (coord h x)) := by
  rw [← W3_v56 m ρ c]
  exact congrFun (W4_of m ρ c main_v56 (by decide)) _

/-- Region 1 reads the adjacency matrix the host scattered. -/
theorem V4_a (c : Dev nD) : V4 m ρ c (Pipeline.arrRef spec1 3)
    = Host.scatter scatter_S512x512_S8192x2_S8192_n_01_01_1 (fun _ b => b) (broadcastInDim S512x512 ![] bcast_S_S512x512 (constant (F := Ideal) S_ .f32 0x00000000#32))
        (Cert.ReferenceIdeal.Read.val_main_v96 (F := Ideal) (m ((c : Thread nD τ).loc main_arg2))) (broadcastInDim S8192 ![] bcast_S_S8192 (constant (F := Ideal) S_ .f32 0x3F800000#32)) := by
  rw [← W1_v19 m ρ c]
  exact (W4_of m ρ c main_v19 (by decide)).trans ((W3_of m ρ c main_v19 (by decide)).trans (W2_of m ρ c main_v19 (by decide)))

end Cert.KernelIdeal.Run

end
-- ==== Proof.Value.Gather.lean ====
/- The reference's gathers and its edge scatter, read at an index. -/
module

public import proofs.«01_k».proof.Proof.Value.Host

@[expose] public section

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.ShloMosaic.Tactic
open Cert.KernelIdeal.Head (back key)
open Cert.KernelIdeal.Run (past bit coord)

/-- The clamped source step of time `t`, `e` steps back. -/
theorem step_at (t : Fin 8) (e : Fin 5) : val_main_v44 (F := Ideal) (ix2 t e) = BitVec.ofNat 32 (past t e).val := by
  unfold val_main_v44
  pointwise [val_main_v41, val_main_v43, val_main_v37, val_main_v35, val_main_v42, val_main_v40, val_main_v36, val_main_v34, val_main_v33, val_main_v32, val_main_v31, val_main_v30, val_main_v29, val_main_c, val_main_c_4, val_main_c_5]
  show _ = BitVec.ofNat 32 (t.val - e.val)
  revert t e
  decide

/-- How a step's rows are gathered. -/
abbrev gd3 := gather_S8x512x256_S8x5x1_S8x5x512x256_23_0_n_n_0_2_1512256

/-- The gather of whole steps reads its operand at the start index's step. -/
theorem gather3 (x : FVec Ideal S8x512x256 .f32) (idx : IVec S8x5x1 32) (t : Fin 8) (e : Fin 5) (j : Fin 512) (k : Fin 256)
    (h : idx (ix3 t e (0 : Fin 1)) = BitVec.ofNat 32 (past t e).val) :
    Host.gather gd3 x idx (ix4 t e j k) = x (ix3 (past t e) j k) := by
  unfold Host.gather
  refine congrArg x (funext fun a => Fin.ext ?_)
  have hp := (past t e).isLt
  match a with
  | ⟨0, _⟩ =>
    show gd3.start (ix4 t e j k) idx 0 + gd3.batchCoord (ix4 t e j k) 0 + gd3.offCoord (ix4 t e j k) 0 = (past t e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gd3.startIndexMap from List.mem_singleton.mpr rfl)]
    have hsi : gd3.siIdx (ix4 t e j k) ⟨List.idxOf (0 : Fin 3) gd3.startIndexMap, List.idxOf_lt_length_iff.2 (List.mem_singleton.mpr rfl)⟩ = ix3 t e (0 : Fin 1) := by
      funext b; refine Fin.ext ?_
      match b with
      | ⟨0, _⟩ => rfl
      | ⟨1, _⟩ => rfl
      | ⟨2, _⟩ => rfl
    rw [hsi, h]
    show _ = (past t e).val
    generalize past t e = p at *
    clear h hsi hp
    revert p
    decide
  | ⟨1, _⟩ =>
    show gd3.start (ix4 t e j k) idx 1 + gd3.batchCoord (ix4 t e j k) 1 + gd3.offCoord (ix4 t e j k) 1 = j.val
    rw [GatherDims.batchCoord_eq_zero _ _ _ List.not_mem_nil]
    unfold GatherDims.start GatherDims.offCoord
    rw [dif_neg (by decide), dif_pos (by decide), Nat.zero_add]
    rfl
  | ⟨2, _⟩ =>
    show gd3.start (ix4 t e j k) idx 2 + gd3.batchCoord (ix4 t e j k) 2 + gd3.offCoord (ix4 t e j k) 2 = k.val
    rw [GatherDims.batchCoord_eq_zero _ _ _ List.not_mem_nil]
    unfold GatherDims.start GatherDims.offCoord
    rw [dif_neg (by decide), dif_pos (by decide), Nat.zero_add]
    rfl

/-- How a step's speaking signal is gathered. -/
abbrev gd2 := gather_S8x512_S8x5x1_S8x5x512_2_0_n_n_0_2_1512

/-- The gather of whole rows reads its operand at the start index's row. -/
theorem gather2 (x : FVec Ideal S8x512 .f32) (idx : IVec S8x5x1 32) (t : Fin 8) (e : Fin 5) (j : Fin 512)
    (h : idx (ix3 t e (0 : Fin 1)) = BitVec.ofNat 32 (past t e).val) :
    Host.gather gd2 x idx (ix3 t e j) = x (ix2 (past t e) j) := by
  unfold Host.gather
  refine congrArg x (funext fun a => Fin.ext ?_)
  match a with
  | ⟨0, _⟩ =>
    show gd2.start (ix3 t e j) idx 0 + gd2.batchCoord (ix3 t e j) 0 + gd2.offCoord (ix3 t e j) 0 = (past t e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd2.startIndexMap from List.mem_singleton.mpr rfl)]
    have hsi : gd2.siIdx (ix3 t e j) ⟨List.idxOf (0 : Fin 2) gd2.startIndexMap, List.idxOf_lt_length_iff.2 (List.mem_singleton.mpr rfl)⟩ = ix3 t e (0 : Fin 1) := by
      funext b; refine Fin.ext ?_
      match b with
      | ⟨0, _⟩ => rfl
      | ⟨1, _⟩ => rfl
      | ⟨2, _⟩ => rfl
    rw [hsi, h]
    show _ = (past t e).val
    generalize past t e = p at *
    clear h hsi
    revert p
    decide
  | ⟨1, _⟩ =>
    show gd2.start (ix3 t e j) idx 1 + gd2.batchCoord (ix3 t e j) 1 + gd2.offCoord (ix3 t e j) 1 = j.val
    rw [GatherDims.batchCoord_eq_zero _ _ _ List.not_mem_nil]
    unfold GatherDims.start GatherDims.offCoord
    rw [dif_neg (by decide), dif_pos (by decide), Nat.zero_add]
    rfl

/-- The gathered node features. -/
theorem feat_at (x0 : (⟨S8x512x256, .f32⟩ : BufTy).Contents (Elt Ideal)) (t : Fin 8) (e : Fin 5) (j : Fin 512) (k : Fin 256) :
    val_main_v46 (F := Ideal) x0 (ix4 t e j k) = x0 (ix3 (past t e) j k) :=
  gather3 x0 (val_main_v45 (F := Ideal)) t e j k (by
    refine Eq.trans ?_ (step_at t e)
    unfold val_main_v45
    pointwise)

/-- The gathered speaking signal. -/
theorem speak_at (x1 : (⟨S8x512, .f32⟩ : BufTy).Contents (Elt Ideal)) (t : Fin 8) (e : Fin 5) (j : Fin 512) :
    val_main_v65 (F := Ideal) x1 (ix3 t e j) = x1 (ix2 (past t e) j) :=
  gather2 x1 (val_main_v64 (F := Ideal)) t e j (by
    refine Eq.trans ?_ (step_at t e)
    unfold val_main_v64
    pointwise
    rfl)

/-- The gathered value projections. -/
theorem value_at (x0 : (⟨S8x512x256, .f32⟩ : BufTy).Contents (Elt Ideal)) (x6 : (⟨S256x256, .f32⟩ : BufTy).Contents (Elt Ideal)) (t : Fin 8) (e : Fin 5) (j : Fin 512) (k : Fin 256) :
    val_main_v134 (F := Ideal) x0 x6 (ix4 t e j k) = val_main_v127 (F := Ideal) x0 x6 (ix3 (past t e) j k) :=
  gather3 (val_main_v127 (F := Ideal) x0 x6) (val_main_v133 (F := Ideal)) t e j k (by
    refine Eq.trans ?_ (step_at t e)
    unfold val_main_v133
    pointwise
    rfl)

/-- Replacing scatters commute with a function of the elements. -/
theorem scatter_map {α β : Type} {s si u : Shape} {w : Nat} (d : ScatterDims s si u) (g : α → β) (x : s.Idx → α) (idx : IVec si w) (upd : u.Idx → α) (i : s.Idx) :
    g (Host.scatter d (fun _ b => b) x idx upd i) = Host.scatter d (fun _ b => b) (fun i => g (x i)) idx (fun n => g (upd n)) i := by
  unfold Host.scatter
  generalize List.finRange u.numel = L
  induction L generalizing x with
  | nil => rfl
  | cons n L ih =>
    rw [List.foldl_cons, List.foldl_cons, ih]
    refine congrFun (congrArg (fun r : s.Idx → β => List.foldl _ r L) (funext fun i' => ?_)) i
    cases d.resultIdx? (u.rowMajor.symm n) idx with
    | none => rfl
    | some k =>
      dsimp only
      split <;> rfl

/-- The reference's edge test is the kernel's: an edge was scattered where the kernel's matrix is positive. -/
theorem edge_at (x2 : (⟨S2x8192, .i32⟩ : BufTy).Contents (Elt Ideal)) (i j : Fin 512) :
    val_main_v98 (F := Ideal) x2 (ix2 i j)
      = Cert.KernelIdeal.Gen.k1_pay1 (F := Ideal) (Host.scatter Cert.KernelIdeal.scatter_S512x512_S8192x2_S8192_n_01_01_1 (fun _ b => b)
          (broadcastInDim Cert.KernelIdeal.S512x512 ![] Cert.KernelIdeal.Gen.bcast_S_S512x512 (constant (F := Ideal) Cert.KernelIdeal.S_ .f32 0x00000000#32))
          (val_main_v96 (F := Ideal) x2) (broadcastInDim Cert.KernelIdeal.S8192 ![] Cert.KernelIdeal.Gen.bcast_S_S8192 (constant (F := Ideal) Cert.KernelIdeal.S_ .f32 0x3F800000#32))) (ix2 i j) := by
  unfold Cert.KernelIdeal.Gen.k1_pay1
  pointwise
  refine Eq.trans ?_ (scatter_map _ (fun a : EReal => BitVec.ofBool (decide (0 < a))) _ _ _ _).symm
  have h0 : (fun i : S512x512.Idx => BitVec.ofBool (decide ((0 : EReal) < broadcastInDim Cert.KernelIdeal.S512x512 ![] Cert.KernelIdeal.Gen.bcast_S_S512x512 (constant (F := Ideal) Cert.KernelIdeal.S_ .f32 0x00000000#32) i))) = val_main_v79 (F := Ideal) := by
    funext i
    idx_vars i
    pointwise [val_main_v79, val_main_c_13]
    rw [decide_eq_false (lt_irrefl _)]
    rfl
  have h1 : (fun i : S8192.Idx => BitVec.ofBool (decide ((0 : EReal) < broadcastInDim Cert.KernelIdeal.S8192 ![] Cert.KernelIdeal.Gen.bcast_S_S8192 (constant (F := Ideal) Cert.KernelIdeal.S_ .f32 0x3F800000#32) i))) = val_main_v97 (F := Ideal) := by
    funext i
    idx_vars i
    pointwise [val_main_v97, val_main_c_18]
    rw [decide_eq_true zero_lt_one]
    rfl
  rw [h0, h1]
  rfl

end Cert.ReferenceIdeal.Chain

end
-- ==== Proof.Value.Ref.lean ====
/- The reference's masked logits, read at an index. -/
module

public import proofs.«01_k».proof.Proof.Value.Gather

@[expose] public section

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.ShloMosaic.Tactic
open Cert.KernelIdeal.Head (back key)
open Cert.KernelIdeal.Run (past bit coord headProj keyProj peSum)

/-- The reference's queries. -/
theorem query_at (x0 : (⟨S8x512x256, .f32⟩ : BufTy).Contents (Elt Ideal)) (x4 : (⟨S256x256, .f32⟩ : BufTy).Contents (Elt Ideal)) (t h : Fin 8) (i : Fin 512) (x : Fin 32) :
    val_main_v39 (F := Ideal) x0 x4 (ix4 t i h x) = headProj x4 x0 h t x i := by
  unfold val_main_v39 val_main_v38 headProj
  pointwise
  exact Finset.sum_congr rfl fun k _ => mul_comm _ _

/-- The reference's keys: the feature part plus the position table's part. -/
theorem key_at (x0 : (⟨S8x512x256, .f32⟩ : BufTy).Contents (Elt Ideal)) (x5 : (⟨S264x256, .f32⟩ : BufTy).Contents (Elt Ideal)) (t h : Fin 8) (e : Fin 5) (j : Fin 512) (x : Fin 32) :
    val_main_v51 (F := Ideal) x0 x5 (ix5 t e j h x) = keyProj x5 x0 h (past t e) x j + peSum x5 (ix2 e (coord h x)) := by
  rw [Cert.KernelIdeal.Run.peSum_apply]
  unfold val_main_v51 val_main_v50 val_main_v49 val_main_v48 val_main_v47 keyProj
  pointwise
  refine congrArg₂ (· + ·) (Finset.sum_congr rfl fun k _ => ?_) rfl
  rw [feat_at]
  exact mul_comm _ _

/-- The reference's value array at (time, node, head, coordinate): the projection at the node's step back in time. -/
theorem v_at (x0 : (⟨S8x512x256, .f32⟩ : BufTy).Contents (Elt Ideal)) (x6 : (⟨S256x256, .f32⟩ : BufTy).Contents (Elt Ideal)) (t h : Fin 8) (n : Fin 2560) (x : Fin 32) :
    val_main_v135 (F := Ideal) x0 x6 (ix4 t n h x) = headProj x6 x0 h (past t (back n)) x (key n) := by
  unfold val_main_v135 headProj
  pointwise
  refine (value_at x0 x6 t (back n) (key n) (coord h x)).trans ?_
  unfold val_main_v127
  pointwise
  exact Finset.sum_congr rfl fun k _ => mul_comm _ _

/-- The negated logarithm of one more than a small number of steps. -/
theorem bias_log (n : Nat) (hn : (BitVec.ofNat 32 n).toInt = n) :
    -Ideal.log1p (FloatOps.sitofp (F := Ideal) FTy.f32 (BitVec.ofNat 32 n)) = ((-Real.log (n + 1 : ℝ) : ℝ) : EReal) := by
  have h1 : FloatOps.sitofp (F := Ideal) FTy.f32 (BitVec.ofNat 32 n) = ((n : ℝ) : EReal) := by
    show (((BitVec.ofNat 32 n).toInt : ℝ) : EReal) = _
    rw [hn]
    norm_cast
  rw [h1]
  have h2 : (1 : EReal) + ((n : ℝ) : EReal) = ((n + 1 : ℝ) : EReal) := by
    rw [add_comm]
    norm_cast
  unfold Ideal.log1p
  rw [h2]
  show -(if (n + 1 : ℝ) ≤ 0 then (⊥ : EReal) else ((Real.log (n + 1 : ℝ) : ℝ) : EReal)) = _
  rw [if_neg (not_le.2 (by positivity)), EReal.coe_neg]

/-- The reference's recency bias is the kernel's constant. -/
theorem bias_at (e : Fin 5) : -Ideal.log1p (FloatOps.sitofp (F := Ideal) FTy.f32 (BitVec.ofNat 32 e.val)) = Cert.KernelIdeal.Head.biasV (F := Ideal) e := by
  refine (bias_log e.val (by revert e; decide)).trans ?_
  match e with
  | ⟨0, _⟩ =>
    refine Eq.trans ?_ (show Ideal.ofBits FTy.f32 0x80000000#32 = _ from rfl)
    have : Ideal.ofBits FTy.f32 0x80000000#32 = 0 := by simp [Ideal.ofBits, Ideal.ieee]
    rw [this]
    simp
  | ⟨1, _⟩ =>
    refine Eq.trans ?_ (IdealRules.named_const.ideal_named_scalar _ _ _ _ rfl).symm
    norm_num
  | ⟨2, _⟩ =>
    refine Eq.trans ?_ (IdealRules.named_const.ideal_named_scalar _ _ _ _ rfl).symm
    norm_num
  | ⟨3, _⟩ =>
    refine Eq.trans ?_ (IdealRules.named_const.ideal_named_scalar _ _ _ _ rfl).symm
    norm_num
  | ⟨4, _⟩ =>
    refine Eq.trans ?_ (IdealRules.named_const.ideal_named_scalar _ _ _ _ rfl).symm
    norm_num

/-- The reference's logits before the mask. -/
theorem raw_at (x0 : (⟨S8x512x256, .f32⟩ : BufTy).Contents (Elt Ideal)) (x1 : (⟨S8x512, .f32⟩ : BufTy).Contents (Elt Ideal)) (x4 : (⟨S256x256, .f32⟩ : BufTy).Contents (Elt Ideal)) (x5 : (⟨S264x256, .f32⟩ : BufTy).Contents (Elt Ideal)) (t h : Fin 8) (i : Fin 512) (n : Fin 2560) :
    val_main_v78 (F := Ideal) x0 x1 x4 x5 (ix4 t h i n)
      = Cert.KernelIdeal.Head.logit (Cert.KernelIdeal.Head.biasV (F := Ideal) (back n)) (fun x => headProj x4 x0 h t x i) (fun x => keyProj x5 x0 h (past t (back n)) x (key n))
          (fun x => peSum x5 (ix2 (back n) (coord h x))) (x1 (ix2 (past t (back n)) (key n))) := by
  unfold Cert.KernelIdeal.Head.logit
  pointwise [val_main_v78, val_main_v77, val_main_v76, val_main_v75, val_main_v74, val_main_v73, val_main_v72, val_main_v71, val_main_v70, val_main_v69, val_main_v68, val_main_v67, val_main_v66,
    val_main_v58, val_main_v57, val_main_v56, val_main_v55, val_main_v54, val_main_v53, val_main_v52, val_main_v28, val_main_v27, val_main_v0, val_main_cst_6, val_main_cst_9, val_main_cst_10, val_main_cst_11, val_main_cst_12]
  refine congrArg (fun z => Ideal.div z 1) (congrArg₂ (· + ·) (congrArg₂ (· + ·) (congrArg (· * _) (Finset.sum_congr rfl fun x _ => ?_)) (bias_at (back n))) (congrArg (fun z => Ideal.log (z + _)) ?_))
  · rw [query_at]
    exact congrArg (_ * ·) (key_at x0 x5 t h (back n) (key n) x)
  · rw [min_comm, max_comm]
    exact congrArg (fun z => min 1 (max 0 z)) (speak_at x1 t (back n) (key n))

/-- The reference's mask bit is the kernel's. -/
theorem bit_at (x2 : (⟨S2x8192, .i32⟩ : BufTy).Contents (Elt Ideal)) (t h : Fin 8) (i : Fin 512) (n : Fin 2560) :
    val_main_v107 (F := Ideal) x2 (ix4 t h i n) = bit t (Host.scatter Cert.KernelIdeal.scatter_S512x512_S8192x2_S8192_n_01_01_1 (fun _ b => b)
          (broadcastInDim Cert.KernelIdeal.S512x512 ![] Cert.KernelIdeal.Gen.bcast_S_S512x512 (constant (F := Ideal) Cert.KernelIdeal.S_ .f32 0x00000000#32))
          (val_main_v96 (F := Ideal) x2) (broadcastInDim Cert.KernelIdeal.S8192 ![] Cert.KernelIdeal.Gen.bcast_S_S8192 (constant (F := Ideal) Cert.KernelIdeal.S_ .f32 0x3F800000#32))) i n := by
  unfold bit
  rw [← edge_at]
  pointwise [val_main_v107, val_main_v106, val_main_v105, val_main_v104, val_main_v103, val_main_v102, val_main_v101, val_main_v100, val_main_v99, val_main_v35, val_main_v34, val_main_v33, val_main_v32, val_main_v31, val_main_v30, val_main_v29, val_main_c_19]
  refine congrArg (IntOp.andi _) ?_
  show IntOp.cmpi .sge (IntOp.subi (BitVec.ofNat 32 t.val) (BitVec.ofNat 32 (back n).val)) 0#32 = IntOp.cmpi .sge (BitVec.ofNat 32 t.val) (BitVec.ofNat 32 (back n).val)
  generalize back n = e
  revert t e
  decide

end Cert.ReferenceIdeal.Chain

end
-- ==== Proof.Value.Top.lean ====
/- The sixteen greatest values of a row, and what the precondition says of them. -/
module

public import proofs.«01_k».proof.Proof.Value.Ref
public import proofs.«01_k».proof.Proof.Run.Side
public import Idealize.ShloMosaic.Lib.SortFacts

@[expose] public section

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.ShloMosaic.Tactic

/-- A row's positions, the greater value first. -/
def order (L : Fin 2560 → EReal) : Fin 2560 → Fin 2560 := sortedFrom (fun k k' => Ideal.cmp .ogt (L k) (L k') == 1#1)

/-- A row's sixteen greatest values, the greatest first. -/
def greatest (L : Fin 2560 → EReal) (a : Fin 16) : EReal := L (order L (a.castLE (by decide)))

/-- Along the sorted order the entries do not increase. -/
theorem order_anti (L : Fin 2560 → EReal) (p q : Fin 2560) (h : p ≤ q) : L (order L q) ≤ L (order L p) := by
  rcases h.eq_or_lt with rfl | h
  · exact le_rfl
  have hc : ∀ a b, (Ideal.cmp .ogt (L a) (L b) == 1#1) = decide (L b < L a) := fun a b => by
    show (BitVec.ofBool (decide (L b < L a)) == 1#1) = _
    cases decide (L b < L a) <;> rfl
  have := sortedFrom_noInversion (fun k k' => Ideal.cmp .ogt (L k) (L k') == 1#1) (fun k k' => Ideal.cmp .ogt (L k) (L k') == 1#1)
    (fun a b h => by rw [hc] at h ⊢; exact decide_eq_false (not_lt.2 (of_decide_eq_true h).le)) (fun a b h => h)
    (fun a b c h1 h2 => by
      rw [hc] at h1 h2 ⊢
      exact decide_eq_false (not_lt.2 ((not_lt.1 (of_decide_eq_false h1)).trans (not_lt.1 (of_decide_eq_false h2)))))
    p q h
  exact not_lt.1 (of_decide_eq_false ((hc _ _).symm.trans this))

/-- Where no two of a row's sixteen greatest values tie, fifteen removals of the maximum leave the sixteenth. -/
theorem peel_greatest (L : Fin 2560 → EReal) (h : ∀ a : Fin 15, greatest L a.succ < greatest L a.castSucc ∨ greatest L a.succ = ⊥) :
    Finset.univ.sup (Cert.Row.peel^[15] L) = greatest L 15 := by
  refine Cert.Row.sup_peel_eq L (greatest L) (fun a => ⟨_, rfl⟩) (fun a b hab => order_anti L _ _ hab) (fun k hk => ?_) h
  obtain ⟨p, rfl⟩ := sortedFrom_surjective (fun k k' => Ideal.cmp .ogt (L k) (L k') == 1#1) k
  have hp : p.val < 15 := by
    by_contra hc
    exact absurd hk (not_lt.2 (order_anti L _ p (Fin.le_def.2 (not_lt.1 hc))))
  exact ⟨⟨p.val, hp⟩, rfl⟩

/-- None of the sixteen greatest exceeds the greatest of all. -/
theorem greatest_le_sup (L : Fin 2560 → EReal) (a : Fin 16) : greatest L a ≤ Finset.univ.sup L := Finset.le_sup (f := L) (Finset.mem_univ _)

/-- The host's top-k values read a row's greatest values. -/
theorem top_at (x : FVec Ideal S8x8x512x2560 .f32) (t h : Fin 8) (i : Fin 512) (a : Fin 16) :
    (Host.topK S8x8x512x16 3 (FloatOps.cmpfTotal (F := Ideal) .gt) x sliceFits_S8x8x512x2560_S8x8x512x16).1 (ix4 t h i a) = greatest (fun n => x (ix4 t h i n)) a := by
  unfold Host.topK
  dsimp only
  have hs : ∀ y : IVec S8x8x512x2560 32, (Host.sort2 S8x8x512x2560 3 (fun l r => FloatOps.cmpfTotal (F := Ideal) .gt l.1 r.1) x y).1 (ix4 t h i (a.castLE (by decide))) = greatest (fun n => x (ix4 t h i n)) a := by
    intro y
    unfold Host.sort2
    rw [dif_pos (by decide)]
    have hal : ∀ k : Fin 2560, Shape.Idx.along (s := S8x8x512x2560) (ix4 t h i (a.castLE (by decide) : Fin 2560)) 3 k = ix4 t h i k := by
      intro k
      funext b
      match b with
      | ⟨0, _⟩ => rfl
      | ⟨1, _⟩ => rfl
      | ⟨2, _⟩ => rfl
      | ⟨3, _⟩ => rfl
    refine (congrArg x (hal _)).trans ?_
    unfold greatest order
    refine congrArg (fun f => x (ix4 t h i (sortedFrom f (a.castLE (by decide))))) ?_
    funext k k'
    exact congrArg₂ (fun u v => Ideal.cmp .ogt (x u) (x v) == 1#1) (hal k) (hal k')
  refine Eq.trans ?_ (hs (fun i => if hd : 3 < 4 then iotaInDim S8x8x512x2560 32 ⟨3, hd⟩ i else 0#32))
  refine congrArg (Host.sort2 S8x8x512x2560 3 (fun l r => FloatOps.cmpfTotal (F := Ideal) .gt l.1 r.1) x (fun i => if hd : 3 < 4 then iotaInDim S8x8x512x2560 32 ⟨3, hd⟩ i else 0#32)).1 (funext fun b => Fin.ext ?_)
  match b with
  | ⟨0, _⟩ => exact Nat.zero_add _
  | ⟨1, _⟩ => exact Nat.zero_add _
  | ⟨2, _⟩ => exact Nat.zero_add _
  | ⟨3, _⟩ => exact Nat.zero_add _

/-- The precondition, spelt over the reference's own top-k values. -/
theorem pre_eq (x0 : (⟨S8x512x256, .f32⟩ : BufTy).Contents (Elt Ideal)) (x1 : (⟨S8x512, .f32⟩ : BufTy).Contents (Elt Ideal)) (x2 : (⟨S2x8192, .i32⟩ : BufTy).Contents (Elt Ideal)) (x3 : IVec Cert.Pre_no_tie_in_top_16.S8 32) (x4 : (⟨S256x256, .f32⟩ : BufTy).Contents (Elt Ideal)) (x5 : (⟨S264x256, .f32⟩ : BufTy).Contents (Elt Ideal)) (x6 : (⟨S256x256, .f32⟩ : BufTy).Contents (Elt Ideal)) :
    Cert.Pre_no_tie_in_top_16.fn (F := Ideal) x0 x1 x2 x3 x4 x5 x6
      = Cert.Pre_no_tie_in_top_16.fn_part5 (F := Ideal) (val_main_v35 (F := Ideal)) (val_main_v78 (F := Ideal) x0 x1 x4 x5) (val_main_v98 (F := Ideal) x2) := by
  have e5 : Cert.Pre_no_tie_in_top_16.fn_part4 (F := Ideal) x2 (val_main_v35 (F := Ideal)) (val_main_v78 (F := Ideal) x0 x1 x4 x5) (val_main_v79 (F := Ideal))
      = Cert.Pre_no_tie_in_top_16.fn_part5 (F := Ideal) (val_main_v35 (F := Ideal)) (val_main_v78 (F := Ideal) x0 x1 x4 x5) (val_main_v98 (F := Ideal) x2) := rfl
  have e4 : Cert.Pre_no_tie_in_top_16.fn_part3 (F := Ideal) x1 x2 (val_main_v35 (F := Ideal)) (val_main_v37 (F := Ideal)) (val_main_v58 (F := Ideal) x0 x4 x5) (val_main_v60 (F := Ideal)) (val_main_c_8 (F := Ideal))
      = Cert.Pre_no_tie_in_top_16.fn_part4 (F := Ideal) x2 (val_main_v35 (F := Ideal)) (val_main_v78 (F := Ideal) x0 x1 x4 x5) (val_main_v79 (F := Ideal)) := rfl
  have e3 : Cert.Pre_no_tie_in_top_16.fn_part2 (F := Ideal) x0 x1 x2 x5 (val_main_v26 (F := Ideal)) (val_main_v28 (F := Ideal)) (val_main_v35 (F := Ideal)) (val_main_v37 (F := Ideal)) (val_main_v39 (F := Ideal) x0 x4) (val_main_v40 (F := Ideal))
      = Cert.Pre_no_tie_in_top_16.fn_part3 (F := Ideal) x1 x2 (val_main_v35 (F := Ideal)) (val_main_v37 (F := Ideal)) (val_main_v58 (F := Ideal) x0 x4 x5) (val_main_v60 (F := Ideal)) (val_main_c_8 (F := Ideal)) := rfl
  have e2 : Cert.Pre_no_tie_in_top_16.fn_part1 (F := Ideal) x0 x1 x2 x4 x5 (val_main_v0 (F := Ideal)) (val_main_v11 (F := Ideal)) (val_main_v18 (F := Ideal))
      = Cert.Pre_no_tie_in_top_16.fn_part2 (F := Ideal) x0 x1 x2 x5 (val_main_v26 (F := Ideal)) (val_main_v28 (F := Ideal)) (val_main_v35 (F := Ideal)) (val_main_v37 (F := Ideal)) (val_main_v39 (F := Ideal) x0 x4) (val_main_v40 (F := Ideal)) := rfl
  have e1 : Cert.Pre_no_tie_in_top_16.fn (F := Ideal) x0 x1 x2 x3 x4 x5 x6
      = Cert.Pre_no_tie_in_top_16.fn_part1 (F := Ideal) x0 x1 x2 x4 x5 (val_main_v0 (F := Ideal)) (val_main_v11 (F := Ideal)) (val_main_v18 (F := Ideal)) := rfl
  rw [e1, e2, e3, e4, e5]

/-- The first fifteen of the sixteen values. -/
def upper (X : FVec Ideal Cert.Pre_no_tie_in_top_16.S8x8x512x16 .f32) : FVec Ideal Cert.Pre_no_tie_in_top_16.S8x8x512x15 .f32 :=
  extractStridedSlice Cert.Pre_no_tie_in_top_16.S8x8x512x15 ![0, 0, 0, 0] X Cert.Pre_no_tie_in_top_16.Facts.slices_S8x8x512x16_S8x8x512x15_0_0_0_0

/-- The last fifteen of the sixteen values. -/
def lower (X : FVec Ideal Cert.Pre_no_tie_in_top_16.S8x8x512x16 .f32) : FVec Ideal Cert.Pre_no_tie_in_top_16.S8x8x512x15 .f32 :=
  extractStridedSlice Cert.Pre_no_tie_in_top_16.S8x8x512x15 ![0, 0, 0, 1] X Cert.Pre_no_tie_in_top_16.Facts.slices_S8x8x512x16_S8x8x512x15_0_0_0_1

/-- Under the precondition neighbours among a row's sixteen greatest masked logits differ, or the lesser is −∞. -/
theorem pre_strict (x0 : (⟨S8x512x256, .f32⟩ : BufTy).Contents (Elt Ideal)) (x1 : (⟨S8x512, .f32⟩ : BufTy).Contents (Elt Ideal)) (x2 : (⟨S2x8192, .i32⟩ : BufTy).Contents (Elt Ideal)) (x3 : IVec Cert.Pre_no_tie_in_top_16.S8 32) (x4 : (⟨S256x256, .f32⟩ : BufTy).Contents (Elt Ideal)) (x5 : (⟨S264x256, .f32⟩ : BufTy).Contents (Elt Ideal)) (x6 : (⟨S256x256, .f32⟩ : BufTy).Contents (Elt Ideal))
    (hpre : ∀ y, Cert.Pre_no_tie_in_top_16.fn (F := Ideal) x0 x1 x2 x3 x4 x5 x6 y = 1#1) (t h : Fin 8) (i : Fin 512) (a : Fin 15) :
    greatest (fun n => val_main_v109 (F := Ideal) x0 x1 x2 x4 x5 (ix4 t h i n)) a.succ < greatest (fun n => val_main_v109 (F := Ideal) x0 x1 x2 x4 x5 (ix4 t h i n)) a.castSucc
      ∨ greatest (fun n => val_main_v109 (F := Ideal) x0 x1 x2 x4 x5 (ix4 t h i n)) a.succ = ⊥ := by
  have h1 := hpre (ix4 t h i a)
  rw [pre_eq] at h1
  have h2 : ori (cmpf .ogt (upper (val_main_values (F := Ideal) x0 x1 x2 x4 x5)) (lower (val_main_values (F := Ideal) x0 x1 x2 x4 x5)))
      (cmpf .oeq (lower (val_main_values (F := Ideal) x0 x1 x2 x4 x5))
        (broadcastInDim Cert.Pre_no_tie_in_top_16.S8x8x512x15 ![] Cert.Pre_no_tie_in_top_16.Facts.bcast_S_S8x8x512x15 (constant (F := Ideal) Cert.Pre_no_tie_in_top_16.S_ .f32 0xFF800000#32))) (ix4 t h i a) = 1#1 := h1
  clear h1
  have e : ∀ b : Fin 16, val_main_values (F := Ideal) x0 x1 x2 x4 x5 (ix4 t h i b) = greatest (fun n => val_main_v109 (F := Ideal) x0 x1 x2 x4 x5 (ix4 t h i n)) b := top_at _ t h i
  rw [← e, ← e]
  revert h2
  generalize val_main_values (F := Ideal) x0 x1 x2 x4 x5 = X
  unfold upper lower
  pointwise
  have h3 : (⟨1 + a.val, by omega⟩ : Fin 16) = a.succ := Fin.ext (Nat.add_comm _ _)
  have h4 : (⟨a.val, by omega⟩ : Fin 16) = a.castSucc := rfl
  rw [h3, h4, Cert.KernelIdeal.Head.ofBits_bot]
  intro h2
  have h5 : ∀ u v : BitVec 1, IntOp.ori u v = 1#1 → u = 1#1 ∨ v = 1#1 := by decide
  exact (h5 _ _ h2).imp (Cert.KernelIdeal.Head.ofBool_one _).1 (Cert.KernelIdeal.Head.ofBool_one _).1

end Cert.ReferenceIdeal.Chain

end
-- ==== Proof.Value.Final.lean ====
/- The reference's result at an index, and the kernel's. -/
module

public import proofs.«01_k».proof.Proof.Value.Top

@[expose] public section

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.ShloMosaic.Tactic
open Cert.KernelIdeal.Head (back key rowOut)
open Cert.KernelIdeal.Run (past bit coord headProj keyProj peSum lgt)

variable (x0 : (⟨S8x512x256, .f32⟩ : BufTy).Contents (Elt Ideal)) (x1 : (⟨S8x512, .f32⟩ : BufTy).Contents (Elt Ideal)) (x2 : (⟨S2x8192, .i32⟩ : BufTy).Contents (Elt Ideal)) (x3 : IVec Cert.Pre_no_tie_in_top_16.S8 32)
  (x4 : (⟨S256x256, .f32⟩ : BufTy).Contents (Elt Ideal)) (x5 : (⟨S264x256, .f32⟩ : BufTy).Contents (Elt Ideal)) (x6 : (⟨S256x256, .f32⟩ : BufTy).Contents (Elt Ideal))

/-- A row of the reference's masked logits. -/
def rowL (t h : Fin 8) (i : Fin 512) (n : Fin 2560) : EReal := val_main_v109 (F := Ideal) x0 x1 x2 x4 x5 (ix4 t h i n)

/-- A row of the reference's mask. -/
def rowM (t h : Fin 8) (i : Fin 512) (n : Fin 2560) : BitVec 1 := val_main_v107 (F := Ideal) x2 (ix4 t h i n)

/-- Where the mask is off the masked logit is −∞. -/
theorem rowL_off (t h : Fin 8) (i : Fin 512) (n : Fin 2560) (hn : ¬ rowM x2 t h i n = 1#1) : rowL x0 x1 x2 x4 x5 t h i n = ⊥ := by
  unfold rowL
  pointwise [val_main_v109, val_main_v108, val_main_cst_20]
  rw [Cert.KernelIdeal.Head.ofBits_bot]
  exact if_neg hn

/-- The sixteenth greatest masked logit, which the reference compares with. -/
theorem thr_at (t h : Fin 8) (i : Fin 512) (n : Fin 2560) :
    val_main_v111 (F := Ideal) x0 x1 x2 x4 x5 (ix4 t h i n) = greatest (rowL x0 x1 x2 x4 x5 t h i) 15 := by
  refine Eq.trans ?_ (top_at (val_main_v109 (F := Ideal) x0 x1 x2 x4 x5) t h i 15)
  pointwise [val_main_v111, val_main_v110]
  rfl

/-- The bit of a kept entry: at least the sixteenth greatest, and not masked. -/
theorem keep_at (t h : Fin 8) (i : Fin 512) (n : Fin 2560) :
    val_main_v113 (F := Ideal) x0 x1 x2 x4 x5 (ix4 t h i n) = 1#1
      ↔ greatest (rowL x0 x1 x2 x4 x5 t h i) 15 ≤ rowL x0 x1 x2 x4 x5 t h i n ∧ rowM x2 t h i n = 1#1 := by
  unfold val_main_v113 val_main_v112
  pointwise
  rw [thr_at, Cert.KernelIdeal.Head.andi_one, Cert.KernelIdeal.Head.ofBool_one]
  rfl

/-- The greatest kept logit is the greatest masked logit. -/
theorem max_at (t h : Fin 8) (i : Fin 512) :
    val_main_v115 (F := Ideal) x0 x1 x2 x4 x5 (ix3 t h i) = Finset.univ.sup (rowL x0 x1 x2 x4 x5 t h i) := by
  refine Eq.trans ?_ (Cert.Row.sup_keep (rowL x0 x1 x2 x4 x5 t h i) (fun n => rowM x2 t h i n = 1#1) (greatest (rowL x0 x1 x2 x4 x5 t h i) 15)
    (fun n hn => rowL_off x0 x1 x2 x4 x5 t h i n hn) (greatest_le_sup _ _))
  have hr : S8x8x512x2560.Reduces [3] S8x8x512 := by decide
  refine (Host.reduce_eq_fold_single (max : EReal → EReal → EReal) (val_main_v114 (F := Ideal) x0 x1 x2 x4 x5) (val_main_cst_22 (F := Ideal)) reducesTo_S8x8x512x2560_S8x8x512_d3 hr h_S_ (ix3 t h i)).trans ?_
  rw [show val_main_cst_22 (F := Ideal) (Shape.Idx.first h_S_) = ⊥ from Cert.KernelIdeal.Head.ofBits_bot]
  refine (Cert.Row.fold_max _).trans (Finset.sup_congr rfl fun n _ => ?_)
  have hl : hr.lift (ix3 t h i) n = ix4 t h i n := by
    funext b
    match b with
    | ⟨0, _⟩ => rfl
    | ⟨1, _⟩ => rfl
    | ⟨2, _⟩ => rfl
    | ⟨3, _⟩ => rfl
  show val_main_v114 (F := Ideal) x0 x1 x2 x4 x5 (hr.lift (ix3 t h i) n) = _
  rw [hl]
  pointwise [val_main_v114, val_main_call0_v1]
  exact if_congr (keep_at x0 x1 x2 x4 x5 t h i n) rfl Cert.KernelIdeal.Head.ofBits_bot

/-- A row's weight before normalising. -/
theorem exp_at (t h : Fin 8) (i : Fin 512) (n : Fin 2560) :
    val_main_v120 (F := Ideal) x0 x1 x2 x4 x5 (ix4 t h i n)
      = if greatest (rowL x0 x1 x2 x4 x5 t h i) 15 ≤ rowL x0 x1 x2 x4 x5 t h i n ∧ rowM x2 t h i n = 1#1
        then Ideal.exp (rowL x0 x1 x2 x4 x5 t h i n - Finset.univ.sup (rowL x0 x1 x2 x4 x5 t h i)) else 0 := by
  unfold val_main_v120 val_main_v119 val_main_v118 val_main_v117 val_main_v116 val_main_call1_v1
  pointwise
  rw [max_at]
  exact if_congr (keep_at x0 x1 x2 x4 x5 t h i n) rfl Ideal.ofBits_zero_f32

/-- Where the precondition holds the reference's messages are the kernel's row computation on the reference's masked
    logits, mask and values. -/
theorem out_at (hpre : ∀ y, Cert.Pre_no_tie_in_top_16.fn (F := Ideal) x0 x1 x2 x3 x4 x5 x6 y = 1#1) (t h : Fin 8) (i : Fin 512) (d : Fin 32) :
    val_main_v137 (F := Ideal) x0 x1 x2 x4 x5 x6 (ix4 t i h d)
      = rowOut (rowL x0 x1 x2 x4 x5 t h i) (rowM x2 t h i) (fun n => val_main_v135 (F := Ideal) x0 x6 (ix4 t n h d)) := by
  have hthr := peel_greatest (rowL x0 x1 x2 x4 x5 t h i) (pre_strict x0 x1 x2 x3 x4 x5 x6 hpre t h i)
  unfold rowOut
  rw [hthr]
  refine Eq.trans ?_ (Cert.Row.quotient_sum _ _ (fun n => ?_) Cert.KernelIdeal.Head.eps_pos).symm
  · unfold val_main_v137 val_main_v136
    pointwise [val_main_v126, val_main_v125, val_main_v124, val_main_v123, val_main_v122, val_main_v121]
    have h0 : val_main_cst_24 (F := Ideal) (Shape.Idx.first h_S_) = (0 : EReal) := Ideal.ofBits_zero_f32
    have h1 : val_main_cst_25 (F := Ideal) ix0 = Ideal.ofBits FTy.f32 0x2B8CBCCC#32 := rfl
    rw [h0, h1, zero_add]
    simp only [exp_at]
    exact Finset.sum_congr rfl fun n _ => mul_comm _ _
  · split
    · exact Cert.Row.exp_sub_real (Finset.le_sup (f := rowL x0 x1 x2 x4 x5 t h i) (Finset.mem_univ n))
    · exact ⟨0, le_rfl, rfl⟩

/-- A row of the reference's masked logits is the kernel's. -/
theorem rowL_eq (A : FVec Ideal Cert.KernelIdeal.S512x512 .f32) (hA : ∀ t h i n, val_main_v107 (F := Ideal) x2 (ix4 t h i n) = bit t A i n) (t h : Fin 8) (i : Fin 512) :
    rowL x0 x1 x2 x4 x5 t h i = lgt t (fun x => headProj x4 x0 h t x i) (fun u x j => keyProj x5 x0 h u x j) (fun e x => peSum x5 (ix2 e (coord h x))) (fun u j => x1 (ix2 u j)) (bit t A i) := by
  funext n
  unfold rowL lgt
  pointwise [val_main_v109, val_main_v108, val_main_cst_20]
  rw [hA, raw_at, Cert.KernelIdeal.Head.ofBits_bot]
  rfl

end Cert.ReferenceIdeal.Chain

namespace Cert.KernelIdeal.Run

open Cert.KernelIdeal Cert.KernelIdeal.Gen Cert.KernelIdeal.Head
open Idealize.ShloMosaic Idealize.ShloMosaic.TcCoe Idealize.ShloMosaic.Tactic

/-- Where the precondition holds an entry of the array the kernel's second region leaves is the reference's message at
    the kernel's arguments. -/
theorem result_at (m : (ℓ : Loc nD τ sig) → Buf (Elt Ideal) ℓ) (ρ : Dev nD → PrngReg) (c : Dev nD)
    (hpre : ∀ y, Cert.Pre_no_tie_in_top_16.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) y = 1#1)
    (h t : Fin 8) (i : Fin 512) (d : Fin 32) :
    (W5 m ρ c (Proc.devRef .tc main_v63) : FVec Ideal S8x8x512x32 .f32) (ix4 h t i d)
      = Cert.ReferenceIdeal.Read.val_main_v137 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (ix4 t i h d) := by
  refine (congrFun ((W5_result m ρ c).trans (arr1 (V4 m ρ) c)) (ix4 h t i d)).trans ?_
  refine Eq.trans ?_ (Cert.ReferenceIdeal.Chain.out_at _ _ _ _ _ _ _ hpre t h i d).symm
  show attn (V4 m ρ) c h t i d = _
  unfold attn
  rw [V4_a, V4_s]
  rw [Cert.ReferenceIdeal.Chain.rowL_eq _ _ _ _ _ _ (Cert.ReferenceIdeal.Chain.bit_at (m ((c : Thread nD τ).loc main_arg2))) t h i]
  have hm : Cert.ReferenceIdeal.Chain.rowM (m ((c : Thread nD τ).loc main_arg2)) t h i = bit t _ i :=
    funext fun n => Cert.ReferenceIdeal.Chain.bit_at (m ((c : Thread nD τ).loc main_arg2)) t h i n
  rw [hm]
  generalize Host.scatter scatter_S512x512_S8192x2_S8192_n_01_01_1 _ _ _ _ = A
  have hq := funext fun x => V4_q m ρ c h t x i
  have hk := funext fun u => funext fun x => funext fun j => V4_k m ρ c h u x j
  have hp := funext fun e => funext fun x => V4_p m ρ c h e x
  have hv : (fun n : Fin 2560 => (V4 m ρ c main_v62_2 : FVec Ideal S8x8x32x512 .f32) (ix4 h (past t (back n)) d (key n)))
      = fun n => Cert.ReferenceIdeal.Read.val_main_v135 (F := Ideal) (m ((c : Thread nD τ).loc main_arg0)) (m ((c : Thread nD τ).loc main_arg6)) (ix4 t n h d) :=
    funext fun n => (V4_v m ρ c h (past t (back n)) d (key n)).trans (Cert.ReferenceIdeal.Chain.v_at _ _ t h n d).symm
  refine congr (congrFun (congrArg rowOut ?_) _) hv
  exact congrFun (congrFun (congr (congr (congrArg (lgt t) hq) hk) hp) _) _

/-- What the last host stretch leaves in the result: the region's output, its heads moved inside and joined. -/
theorem W6_result (m : (ℓ : Loc nD τ sig) → Buf (Elt Ideal) ℓ) (ρ : Dev nD → PrngReg) (c : Dev nD) :
    W6 m ρ c (Proc.devRef .tc main_v65)
      = shapeCast S8x512x256 (transpose S8x512x8x32 [1, 2, 0, 3] (W5 m ρ c (Proc.devRef .tc main_v63)) transposes_S8x8x512x32_S8x512x8x32_1_2_0_3)
        shapeCasts_S8x512x8x32_S8x512x256 := by
  show StableHlo.after hostOps2 (W5 m ρ c) (Proc.devRef .tc main_v65) = _
  generalize W5 m ρ c = W
  after_reads_simp <;> rfl

/-- Where the precondition holds the kernel's result is the reference's at the kernel's arguments. -/
theorem result_eq (m : (ℓ : Loc nD τ sig) → Buf (Elt Ideal) ℓ) (ρ : Dev nD → PrngReg) (c : Dev nD)
    (hpre : ∀ y, Cert.Pre_no_tie_in_top_16.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) y = 1#1) :
    W6 m ρ c (Proc.devRef .tc main_v65) = Cert.ReferenceIdeal.Read.val_main_v138 (F := Ideal) (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) := by
  refine (W6_result m ρ c).trans ?_
  unfold Cert.ReferenceIdeal.Read.val_main_v138
  refine congrArg (fun z => shapeCast S8x512x256 z shapeCasts_S8x512x8x32_S8x512x256) (funext fun y => ?_)
  obtain ⟨t, i, h, d, rfl⟩ : ∃ (t : Fin 8) (i : Fin 512) (h : Fin 8) (d : Fin 32), y = ix4 t i h d := ⟨y 0, y 1, y 2, y 3, by
    funext b
    match b with
    | ⟨0, _⟩ => rfl
    | ⟨1, _⟩ => rfl
    | ⟨2, _⟩ => rfl
    | ⟨3, _⟩ => rfl⟩
  refine Eq.trans ?_ (result_at m ρ c hpre h t i d)
  exact transpose_apply [1, 2, 0, 3] _ transposes_S8x8x512x32_S8x512x8x32_1_2_0_3 (ix4 t i h d) (ix4 h t i d) (fun b => match b with
    | ⟨0, _⟩ => rfl
    | ⟨1, _⟩ => rfl
    | ⟨2, _⟩ => rfl
    | ⟨3, _⟩ => rfl)

end Cert.KernelIdeal.Run

end
-- ==== Proof.lean ====
/- The five claims: the three programs run and end with their arguments as launched, the kernel's named constants are
   what its literals stand for, and the kernel's result is the reference's. -/
module

public import proofs.«01_k».proof.Defs
public import proofs.«01_k».proof.Proof.Run.Kernel
public import proofs.«01_k».proof.Proof.Run.KernelIdeal
public import proofs.«01_k».proof.Proof.Run.Side
public import proofs.«01_k».proof.Proof.Value.Final
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

set_option maxHeartbeats 2000000

noncomputable section

namespace Cert.Proof

open Idealize.ShloMosaic Idealize.SL.Sem Cert.Kernel

/-- The kernel as written runs to the end from any memory and leaves its arguments as they were. -/
theorem frame_p : quiescent_Kernel := fun m ρ _ => Cert.Kernel.Run.frame m ρ

/-- The kernel over extended reals with its constants named runs to the end and leaves its arguments as they were. -/
theorem frame_pi : quiescent_KernelIdeal := fun m ρ _ => Cert.KernelIdeal.Run.frame m ρ

/-- The same from the memories of the precondition. -/
theorem frame_pi_pre : quiescent_KernelIdeal_pre_no_tie_in_top_16 :=
  fun m ρ _ => Cert.KernelIdeal.Run.frame m ρ

/-- The reference runs to the end from any memory and leaves its arguments as they were. -/
theorem frame_ri : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from the memories of the precondition. -/
theorem frame_ri_pre : quiescent_ReferenceIdeal_pre_no_tie_in_top_16 := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named literal is the literal of its rule: the mask stands for minus infinity, the biases for logarithms. -/
theorem preserves : preserves_Kernel_KernelIdeal :=
  ⟨IdealRules.named_const.statement Cert.KernelIdeal.κ "mask" .f32 0xCE6E6B28#32 ⊥ rfl,
    IdealRules.named_const.statement Cert.KernelIdeal.κ "bias1" .f32 0xBF317218#32 ((-(Real.log 2) : ℝ) : EReal) rfl,
    IdealRules.named_const.statement Cert.KernelIdeal.κ "bias2" .f32 0xBF8C9F54#32 ((-(Real.log 3) : ℝ) : EReal) rfl,
    IdealRules.named_const.statement Cert.KernelIdeal.κ "bias3" .f32 0xBFB17218#32 ((-(Real.log 4) : ℝ) : EReal) rfl,
    IdealRules.named_const.statement Cert.KernelIdeal.κ "bias4" .f32 0xBFCE0210#32 ((-(Real.log 5) : ℝ) : EReal) rfl⟩

/-- Where the precondition holds the kernel and the reference end with equal results. -/
theorem algebraic : algebraic_KernelIdeal_ReferenceIdeal_pre_no_tie_in_top_16 := by
  intro m ρ m' ρ' hpre hagree
  refine ⟨fun c => Cert.KernelIdeal.Run.W6 m ρ c (Proc.devRef .tc Cert.KernelIdeal.main_v65),
    (θ_run Cert.KernelIdeal.defs _ _).mono (fun r h c =>
      ⟨h.1 c _ (Cert.KernelIdeal.Run.mem_uc Cert.KernelIdeal.main_v65 (by decide)),
      (h.1 c _ (Cert.KernelIdeal.Run.mem_uc Cert.KernelIdeal.main_arg0 (by decide))).trans (Cert.KernelIdeal.Run.W6_args m ρ c Cert.KernelIdeal.main_arg0 (by decide)),
      (h.1 c _ (Cert.KernelIdeal.Run.mem_uc Cert.KernelIdeal.main_arg1 (by decide))).trans (Cert.KernelIdeal.Run.W6_args m ρ c Cert.KernelIdeal.main_arg1 (by decide)),
      (h.1 c _ (Cert.KernelIdeal.Run.mem_uc Cert.KernelIdeal.main_arg2 (by decide))).trans (Cert.KernelIdeal.Run.W6_args m ρ c Cert.KernelIdeal.main_arg2 (by decide)),
      (h.1 c _ (Cert.KernelIdeal.Run.mem_uc Cert.KernelIdeal.main_arg3 (by decide))).trans (Cert.KernelIdeal.Run.W6_args m ρ c Cert.KernelIdeal.main_arg3 (by decide)),
      (h.1 c _ (Cert.KernelIdeal.Run.mem_uc Cert.KernelIdeal.main_arg4 (by decide))).trans (Cert.KernelIdeal.Run.W6_args m ρ c Cert.KernelIdeal.main_arg4 (by decide)),
      (h.1 c _ (Cert.KernelIdeal.Run.mem_uc Cert.KernelIdeal.main_arg5 (by decide))).trans (Cert.KernelIdeal.Run.W6_args m ρ c Cert.KernelIdeal.main_arg5 (by decide)),
      (h.1 c _ (Cert.KernelIdeal.Run.mem_uc Cert.KernelIdeal.main_arg6 (by decide))).trans (Cert.KernelIdeal.Run.W6_args m ρ c Cert.KernelIdeal.main_arg6 (by decide))⟩) (Cert.KernelIdeal.Run.ends m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, -, h4, h5, h6⟩ := hagree c
  refine (Cert.ReferenceIdeal.Read.val_main_v138_eq (StableHlo.launchContents m' c)).trans ?_
  refine Eq.trans ?_ (Cert.KernelIdeal.Run.result_eq m ρ c fun y => congrFun (hpre c) y).symm
  exact congr (congr (congr (congr (congr (congrArg (Cert.ReferenceIdeal.Read.val_main_v138 (F := Ideal)) h0) h1) h2) h4) h5) h6

/-- All the claims together. -/
theorem claim : Cert.Claim :=
  ⟨Cert.Kernel.Gen.facts, Cert.KernelIdeal.Gen.facts, Cert.ReferenceIdeal.Gen.facts,
    Cert.Pre_no_tie_in_top_16.Side.facts, frame_p, frame_pi, frame_pi_pre, frame_ri, frame_ri_pre, preserves,
    algebraic⟩

end Cert.Proof

end
